-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x2560 : Shape := ⟨3, ![2, 4096, 2560]⟩
abbrev S8192x2560 : Shape := ⟨2, ![8192, 2560]⟩
abbrev S32x2560 : Shape := ⟨2, ![32, 2560]⟩
abbrev S8192x1x4 : Shape := ⟨3, ![8192, 1, 4]⟩
abbrev S2560x4096 : Shape := ⟨2, ![2560, 4096]⟩
abbrev S128 : Shape := ⟨1, ![128]⟩
abbrev S32 : Shape := ⟨1, ![32]⟩
abbrev S64x2560 : Shape := ⟨2, ![64, 2560]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S32x1x1 : Shape := ⟨3, ![32, 1, 1]⟩
abbrev S1x256x256 : Shape := ⟨3, ![1, 256, 256]⟩
abbrev S32x256x256 : Shape := ⟨3, ![32, 256, 256]⟩
abbrev S32x1 : Shape := ⟨2, ![32, 1]⟩
abbrev S32x256 : Shape := ⟨2, ![32, 256]⟩
abbrev S32x1x256 : Shape := ⟨3, ![32, 1, 256]⟩
abbrev S32x7x256 : Shape := ⟨3, ![32, 7, 256]⟩
abbrev S32x264x256 : Shape := ⟨3, ![32, 264, 256]⟩
abbrev S1x32 : Shape := ⟨2, ![1, 32]⟩
abbrev S256x32 : Shape := ⟨2, ![256, 32]⟩
abbrev S8192x4 : Shape := ⟨2, ![8192, 4]⟩
abbrev S4x8192 : Shape := ⟨2, ![4, 8192]⟩
abbrev S4096 : Shape := ⟨1, ![4096]⟩
abbrev S1x4096 : Shape := ⟨2, ![1, 4096]⟩
abbrev S32x4096 : Shape := ⟨2, ![32, 4096]⟩
abbrev S4096x32 : Shape := ⟨2, ![4096, 32]⟩
abbrev S256x32x128 : Shape := ⟨3, ![256, 32, 128]⟩
abbrev S256x4096 : Shape := ⟨2, ![256, 4096]⟩
abbrev S1x32x128 : Shape := ⟨3, ![1, 32, 128]⟩
abbrev S1x128 : Shape := ⟨2, ![1, 128]⟩
abbrev S1x1x1x128 : Shape := ⟨4, ![1, 1, 1, 128]⟩
abbrev S1x1x32x128 : Shape := ⟨4, ![1, 1, 32, 128]⟩
abbrev S8192x64 : Shape := ⟨2, ![8192, 64]⟩
abbrev S1024x2560 : Shape := ⟨2, ![1024, 2560]⟩
abbrev S1024x64 : Shape := ⟨2, ![1024, 64]⟩
abbrev S8192x8192 : Shape := ⟨2, ![8192, 8192]⟩
abbrev S2048x2560 : Shape := ⟨2, ![2048, 2560]⟩
abbrev S2048x1024 : Shape := ⟨2, ![2048, 1024]⟩
abbrev S2x4096x8192 : Shape := ⟨3, ![2, 4096, 8192]⟩
abbrev S2x4096x64 : Shape := ⟨3, ![2, 4096, 64]⟩
abbrev S2x4096x4096 : Shape := ⟨3, ![2, 4096, 4096]⟩
abbrev S1x256x8192 : Shape := ⟨3, ![1, 256, 8192]⟩
abbrev S1x256x64 : Shape := ⟨3, ![1, 256, 64]⟩
abbrev S1x256x4096 : Shape := ⟨3, ![1, 256, 4096]⟩
abbrev S8x4096 : Shape := ⟨2, ![8, 4096]⟩
abbrev S8x8192 : Shape := ⟨2, ![8, 8192]⟩
abbrev S256x8192 : Shape := ⟨2, ![256, 8192]⟩
abbrev S3x8192 : Shape := ⟨2, ![3, 8192]⟩
abbrev S259x8192 : Shape := ⟨2, ![259, 8192]⟩
abbrev S1x8192 : Shape := ⟨2, ![1, 8192]⟩
abbrev S256x64 : Shape := ⟨2, ![256, 64]⟩
abbrev S1x264x256 : Shape := ⟨3, ![1, 264, 256]⟩
abbrev S264x256 : Shape := ⟨2, ![264, 256]⟩
abbrev S256x128 : Shape := ⟨2, ![256, 128]⟩
abbrev S264x128 : Shape := ⟨2, ![264, 128]⟩
abbrev S8192x4096 : Shape := ⟨2, ![8192, 4096]⟩
abbrev S1024x4096 : Shape := ⟨2, ![1024, 4096]⟩
abbrev S1280x4096 : Shape := ⟨2, ![1280, 4096]⟩
abbrev S1024x1280 : Shape := ⟨2, ![1024, 1280]⟩

abbrev nBuf : Space → Nat
  | .hbm => 132
  | .vmem => 34
  | .smem => 0
  | _ => 0

abbrev hbmTy0_0 (i : Nat) : BufTy := match i % 128 with
  | 0 => ⟨S2x4096x2560, .f32⟩
  | 1 => ⟨S8192x2560, .f32⟩
  | 2 => ⟨S32x2560, .f32⟩
  | 3 => ⟨S32x2560, .f32⟩
  | 4 => ⟨S8192x1x4, .f32⟩
  | 5 => ⟨S2560x4096, .f32⟩
  | 6 => ⟨S128, .f32⟩
  | 7 => ⟨S32, .f32⟩
  | 8 => ⟨S32, .f32⟩
  | 9 => ⟨S8192x2560, .f32⟩
  | 10 => ⟨S8192x2560, .bf16⟩
  | 11 => ⟨S64x2560, .f32⟩
  | 12 => ⟨S2560x4096, .bf16⟩
  | 13 => ⟨S_, .f32⟩
  | 14 => ⟨S32, .f32⟩
  | 15 => ⟨S32, .f32⟩
  | 16 => ⟨S32, .f32⟩
  | 17 => ⟨S32, .f32⟩
  | 18 => ⟨S32, .i1⟩
  | 19 => ⟨S32, .f32⟩
  | 20 => ⟨S32, .f32⟩
  | 21 => ⟨S32, .f32⟩
  | 22 => ⟨S32, .f32⟩
  | 23 => ⟨S32, .f32⟩
  | 24 => ⟨S32, .f32⟩
  | 25 => ⟨S32, .f32⟩
  | 26 => ⟨S32, .f32⟩
  | 27 => ⟨S32, .f32⟩
  | 28 => ⟨S32, .f32⟩
  | 29 => ⟨S32, .f32⟩
  | 30 => ⟨S256, .f32⟩
  | 31 => ⟨S256x1, .f32⟩
  | 32 => ⟨S1x256, .f32⟩
  | 33 => ⟨S256x256, .f32⟩
  | 34 => ⟨S256x256, .f32⟩
  | 35 => ⟨S256x256, .f32⟩
  | 36 => ⟨S_, .f32⟩
  | 37 => ⟨S256x256, .f32⟩
  | 38 => ⟨S256x256, .i1⟩
  | 39 => ⟨S32x1x1, .f32⟩
  | 40 => ⟨S1x256x256, .f32⟩
  | 41 => ⟨S32x256x256, .f32⟩
  | 42 => ⟨S32x256x256, .f32⟩
  | 43 => ⟨S32x256x256, .f32⟩
  | 44 => ⟨S32x256x256, .f32⟩
  | 45 => ⟨S_, .f32⟩
  | 46 => ⟨S_, .f32⟩
  | 47 => ⟨S32x256x256, .i1⟩
  | 48 => ⟨S32x256x256, .f32⟩
  | 49 => ⟨S32x256x256, .f32⟩
  | 50 => ⟨S32x1x1, .f32⟩
  | 51 => ⟨S32x256x256, .f32⟩
  | 52 => ⟨S32x256x256, .f32⟩
  | 53 => ⟨S32x1, .f32⟩
  | 54 => ⟨S32x1, .f32⟩
  | 55 => ⟨S_, .f32⟩
  | 56 => ⟨S256, .f32⟩
  | 57 => ⟨S256, .f32⟩
  | 58 => ⟨S1x256, .f32⟩
  | 59 => ⟨S32x256, .f32⟩
  | 60 => ⟨S32x256, .f32⟩
  | 61 => ⟨S32x256, .f32⟩
  | 62 => ⟨S32x256, .f32⟩
  | 63 => ⟨S32x256, .f32⟩
  | 64 => ⟨S32x256, .f32⟩
  | 65 => ⟨S32x1x256, .f32⟩
  | 66 => ⟨S_, .f32⟩
  | 67 => ⟨S32x7x256, .f32⟩
  | 68 => ⟨S32x264x256, .f32⟩
  | 69 => ⟨S1x32, .f32⟩
  | 70 => ⟨S256x1, .f32⟩
  | 71 => ⟨S_, .f32⟩
  | 72 => ⟨S256x1, .f32⟩
  | 73 => ⟨S256x1, .f32⟩
  | 74 => ⟨S256x32, .f32⟩
  | 75 => ⟨S256x32, .f32⟩
  | 76 => ⟨S256x32, .f32⟩
  | 77 => ⟨S256x32, .f32⟩
  | 78 => ⟨S_, .f32⟩
  | 79 => ⟨S32, .f32⟩
  | 80 => ⟨S32, .f32⟩
  | 81 => ⟨S32, .f32⟩
  | 82 => ⟨S1x32, .f32⟩
  | 83 => ⟨S8192x4, .f32⟩
  | 84 => ⟨S4x8192, .f32⟩
  | 85 => ⟨S4096, .i32⟩
  | 86 => ⟨S_, .i32⟩
  | 87 => ⟨S_, .i32⟩
  | 88 => ⟨S4096, .i32⟩
  | 89 => ⟨S4096, .i32⟩
  | 90 => ⟨S4096, .i32⟩
  | 91 => ⟨S_, .i32⟩
  | 92 => ⟨S4096, .i32⟩
  | 93 => ⟨S4096, .i1⟩
  | 94 => ⟨S4096, .i32⟩
  | 95 => ⟨S4096, .i32⟩
  | 96 => ⟨S_, .i32⟩
  | 97 => ⟨S4096, .i32⟩
  | 98 => ⟨S4096, .i1⟩
  | 99 => ⟨S4096, .i1⟩
  | 100 => ⟨S_, .i32⟩
  | 101 => ⟨S4096, .i32⟩
  | 102 => ⟨S4096, .i32⟩
  | 103 => ⟨S4096, .i32⟩
  | 104 => ⟨S32, .i32⟩
  | 105 => ⟨S32x1, .i32⟩
  | 106 => ⟨S1x4096, .i32⟩
  | 107 => ⟨S32x4096, .i32⟩
  | 108 => ⟨S32x4096, .i32⟩
  | 109 => ⟨S32x4096, .i1⟩
  | 110 => ⟨S32x4096, .f32⟩
  | 111 => ⟨S4096x32, .f32⟩
  | 112 => ⟨S_, .f32⟩
  | 113 => ⟨S4096x32, .f32⟩
  | 114 => ⟨S4096x32, .f32⟩
  | 115 => ⟨S256x32x128, .f32⟩
  | 116 => ⟨S256x4096, .f32⟩
  | 117 => ⟨S1x32x128, .f32⟩
  | 118 => ⟨S1x4096, .f32⟩
  | 119 => ⟨S1x128, .f32⟩
  | 120 => ⟨S1x1x1x128, .f32⟩
  | 121 => ⟨S1x1x32x128, .f32⟩
  | 122 => ⟨S1x4096, .f32⟩
  | 123 => ⟨S8192x64, .f32⟩
  | 124 => ⟨S8192x2560, .bf16⟩
  | 125 => ⟨S8192x8192, .bf16⟩
  | 126 => ⟨S2x4096x8192, .bf16⟩
  | 127 => ⟨S2x4096x64, .f32⟩
  | _ => ⟨S2x4096x2560, .f32⟩

abbrev hbmTy0_1 (i : Nat) : BufTy := match i % 128 with
  | 0 => ⟨S2x4096x4096, .bf16⟩
  | 1 => ⟨S8192x4096, .bf16⟩
  | 2 => ⟨S8192x2560, .f32⟩
  | 3 => ⟨S2x4096x2560, .f32⟩
  | _ => ⟨S2x4096x2560, .f32⟩

abbrev hbmTy (i : Nat) : BufTy := match i / 128 with
  | 0 => hbmTy0_0 i
  | 1 => hbmTy0_1 i
  | _ => ⟨S2x4096x2560, .f32⟩

abbrev bufTy : (tb : Table) → Fin (tcTables nBuf tb) → BufTy
  | .hbm, ⟨i, _⟩ => hbmTy i
  | .local _ .vmem, ⟨0, _⟩ => ⟨S1024x2560, .f32⟩
  | .local _ .vmem, ⟨1, _⟩ => ⟨S1024x2560, .f32⟩
  | .local _ .vmem, ⟨2, _⟩ => ⟨S64x2560, .f32⟩
  | .local _ .vmem, ⟨3, _⟩ => ⟨S1024x64, .f32⟩
  | .local _ .vmem, ⟨4, _⟩ => ⟨S1024x64, .f32⟩
  | .local _ .vmem, ⟨5, _⟩ => ⟨S1024x2560, .bf16⟩
  | .local _ .vmem, ⟨6, _⟩ => ⟨S1024x2560, .bf16⟩
  | .local _ .vmem, ⟨7, _⟩ => ⟨S2048x2560, .bf16⟩
  | .local _ .vmem, ⟨8, _⟩ => ⟨S2048x2560, .bf16⟩
  | .local _ .vmem, ⟨9, _⟩ => ⟨S1024x2560, .bf16⟩
  | .local _ .vmem, ⟨10, _⟩ => ⟨S1024x2560, .bf16⟩
  | .local _ .vmem, ⟨11, _⟩ => ⟨S2048x1024, .bf16⟩
  | .local _ .vmem, ⟨12, _⟩ => ⟨S2048x1024, .bf16⟩
  | .local _ .vmem, ⟨13, _⟩ => ⟨S1x256x8192, .bf16⟩
  | .local _ .vmem, ⟨14, _⟩ => ⟨S1x256x8192, .bf16⟩
  | .local _ .vmem, ⟨15, _⟩ => ⟨S1x256x64, .f32⟩
  | .local _ .vmem, ⟨16, _⟩ => ⟨S1x256x64, .f32⟩
  | .local _ .vmem, ⟨17, _⟩ => ⟨S32x264x256, .f32⟩
  | .local _ .vmem, ⟨18, _⟩ => ⟨S32x4096, .f32⟩
  | .local _ .vmem, ⟨19, _⟩ => ⟨S4096x32, .f32⟩
  | .local _ .vmem, ⟨20, _⟩ => ⟨S256x4096, .f32⟩
  | .local _ .vmem, ⟨21, _⟩ => ⟨S1x4096, .f32⟩
  | .local _ .vmem, ⟨22, _⟩ => ⟨S4x8192, .f32⟩
  | .local _ .vmem, ⟨23, _⟩ => ⟨S1x4096, .f32⟩
  | .local _ .vmem, ⟨24, _⟩ => ⟨S1x256x4096, .bf16⟩
  | .local _ .vmem, ⟨25, _⟩ => ⟨S1x256x4096, .bf16⟩
  | .local _ .vmem, ⟨26, _⟩ => ⟨S8x4096, .f32⟩
  | .local _ .vmem, ⟨27, _⟩ => ⟨S8x8192, .f32⟩
  | .local _ .vmem, ⟨28, _⟩ => ⟨S1024x4096, .bf16⟩
  | .local _ .vmem, ⟨29, _⟩ => ⟨S1024x4096, .bf16⟩
  | .local _ .vmem, ⟨30, _⟩ => ⟨S1280x4096, .bf16⟩
  | .local _ .vmem, ⟨31, _⟩ => ⟨S1280x4096, .bf16⟩
  | .local _ .vmem, ⟨32, _⟩ => ⟨S1024x1280, .f32⟩
  | .local _ .vmem, ⟨33, _⟩ => ⟨S1024x1280, .f32⟩
  | _, _ => ⟨S2x4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_0 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_1 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_2 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_3 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_4 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_c : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_0 : Ref sig .tc := ⟨.hbm, 100, rfl⟩
abbrev main_call2_v12 : Ref sig .tc := ⟨.hbm, 101, rfl⟩
abbrev main_call2_v13 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_5 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74_0 : Ref sig .tc := ⟨.hbm, 123, rfl⟩
abbrev main_v74_1 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg9_1 : Ref sig .tc := ⟨.vmem, 25, rfl⟩
abbrev cc2_scratch0 : Ref sig .tc := ⟨.vmem, 26, rfl⟩
abbrev cc2_scratch1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem9_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x2560 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x2560 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S32x264x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S32x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S4096x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S256x4096 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x4096 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S4x8192 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x4096 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 2 → Memref sig .tc .vmem S1x256x4096 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev grid3 : Pipeline.Grid := ⟨2, ![2, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1280x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1024x1280 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== ReferenceIdeal.lean ====
abbrev S2x4096x2560 : Shape := ⟨3, ![2, 4096, 2560]⟩
abbrev S8192x2560 : Shape := ⟨2, ![8192, 2560]⟩
abbrev S32x2560 : Shape := ⟨2, ![32, 2560]⟩
abbrev S8192x1x4 : Shape := ⟨3, ![8192, 1, 4]⟩
abbrev S2560x4096 : Shape := ⟨2, ![2560, 4096]⟩
abbrev S128 : Shape := ⟨1, ![128]⟩
abbrev S32 : Shape := ⟨1, ![32]⟩
abbrev S2560x8192 : Shape := ⟨2, ![2560, 8192]⟩
abbrev S2x4096x8192 : Shape := ⟨3, ![2, 4096, 8192]⟩
abbrev S2560x32 : Shape := ⟨2, ![2560, 32]⟩
abbrev S2x4096x32 : Shape := ⟨3, ![2, 4096, 32]⟩
abbrev S_ : Shape := ⟨0, ![]⟩
abbrev S2x4099x8192 : Shape := ⟨3, ![2, 4099, 8192]⟩
abbrev S8192x4 : Shape := ⟨2, ![8192, 4]⟩
abbrev S8192x1 : Shape := ⟨2, ![8192, 1]⟩
abbrev S8192 : Shape := ⟨1, ![8192]⟩
abbrev S1x1x8192 : Shape := ⟨3, ![1, 1, 8192]⟩
abbrev S2x4096x4096 : Shape := ⟨3, ![2, 4096, 4096]⟩
abbrev S2x4096x32x128 : Shape := ⟨4, ![2, 4096, 32, 128]⟩
abbrev S2x32x128 : Shape := ⟨3, ![2, 32, 128]⟩
abbrev S4096x2x32x128 : Shape := ⟨4, ![4096, 2, 32, 128]⟩
abbrev S4096x2x32 : Shape := ⟨3, ![4096, 2, 32]⟩
abbrev S1x2x32x128 : Shape := ⟨4, ![1, 2, 32, 128]⟩
abbrev S1x2x32 : Shape := ⟨3, ![1, 2, 32]⟩
abbrev S2x32 : Shape := ⟨2, ![2, 32]⟩
abbrev S1x32x1 : Shape := ⟨3, ![1, 32, 1]⟩
abbrev S1x32 : Shape := ⟨2, ![1, 32]⟩
abbrev S2x32x1 : Shape := ⟨3, ![2, 32, 1]⟩
abbrev S2x4096x32x1 : Shape := ⟨4, ![2, 4096, 32, 1]⟩
abbrev S1x1x1x128 : Shape := ⟨4, ![1, 1, 1, 128]⟩
abbrev S4096x2560 : Shape := ⟨2, ![4096, 2560]⟩

abbrev nBuf : Space → Nat
  | .hbm => 157
  | .vmem => 0
  | .smem => 0
  | _ => 0

abbrev hbmTy0_0 (i : Nat) : BufTy := match i % 128 with
  | 0 => ⟨S2x4096x2560, .f32⟩
  | 1 => ⟨S8192x2560, .f32⟩
  | 2 => ⟨S32x2560, .f32⟩
  | 3 => ⟨S32x2560, .f32⟩
  | 4 => ⟨S8192x1x4, .f32⟩
  | 5 => ⟨S2560x4096, .f32⟩
  | 6 => ⟨S128, .f32⟩
  | 7 => ⟨S32, .f32⟩
  | 8 => ⟨S32, .f32⟩
  | 9 => ⟨S2560x8192, .f32⟩
  | 10 => ⟨S2x4096x8192, .f32⟩
  | 11 => ⟨S2560x32, .f32⟩
  | 12 => ⟨S2x4096x32, .f32⟩
  | 13 => ⟨S2560x32, .f32⟩
  | 14 => ⟨S2x4096x32, .f32⟩
  | 15 => ⟨S_, .i32⟩
  | 16 => ⟨S_, .f32⟩
  | 17 => ⟨S2x4099x8192, .f32⟩
  | 18 => ⟨S8192x4, .f32⟩
  | 19 => ⟨S2x4096x8192, .f32⟩
  | 20 => ⟨S8192x1, .f32⟩
  | 21 => ⟨S8192, .f32⟩
  | 22 => ⟨S1x1x8192, .f32⟩
  | 23 => ⟨S2x4096x8192, .f32⟩
  | 24 => ⟨S2x4096x8192, .f32⟩
  | 25 => ⟨S2x4096x8192, .f32⟩
  | 26 => ⟨S8192x1, .f32⟩
  | 27 => ⟨S8192, .f32⟩
  | 28 => ⟨S1x1x8192, .f32⟩
  | 29 => ⟨S2x4096x8192, .f32⟩
  | 30 => ⟨S2x4096x8192, .f32⟩
  | 31 => ⟨S2x4096x8192, .f32⟩
  | 32 => ⟨S2x4096x8192, .f32⟩
  | 33 => ⟨S8192x1, .f32⟩
  | 34 => ⟨S8192, .f32⟩
  | 35 => ⟨S1x1x8192, .f32⟩
  | 36 => ⟨S2x4096x8192, .f32⟩
  | 37 => ⟨S2x4096x8192, .f32⟩
  | 38 => ⟨S2x4096x8192, .f32⟩
  | 39 => ⟨S2x4096x8192, .f32⟩
  | 40 => ⟨S8192x1, .f32⟩
  | 41 => ⟨S8192, .f32⟩
  | 42 => ⟨S1x1x8192, .f32⟩
  | 43 => ⟨S2x4096x8192, .f32⟩
  | 44 => ⟨S2x4096x8192, .f32⟩
  | 45 => ⟨S2x4096x8192, .f32⟩
  | 46 => ⟨S2x4096x4096, .f32⟩
  | 47 => ⟨S2x4096x4096, .f32⟩
  | 48 => ⟨S2x4096x4096, .f32⟩
  | 49 => ⟨S2x4096x4096, .f32⟩
  | 50 => ⟨S_, .f32⟩
  | 51 => ⟨S2x4096x4096, .f32⟩
  | 52 => ⟨S2x4096x4096, .f32⟩
  | 53 => ⟨S_, .f32⟩
  | 54 => ⟨S2x4096x4096, .f32⟩
  | 55 => ⟨S2x4096x4096, .f32⟩
  | 56 => ⟨S2x4096x4096, .f32⟩
  | 57 => ⟨S2x4096x32x128, .f32⟩
  | 58 => ⟨S32, .f32⟩
  | 59 => ⟨S32, .f32⟩
  | 60 => ⟨S_, .f32⟩
  | 61 => ⟨S32, .f32⟩
  | 62 => ⟨S32, .f32⟩
  | 63 => ⟨S32, .f32⟩
  | 64 => ⟨S32, .f32⟩
  | 65 => ⟨S32, .i1⟩
  | 66 => ⟨S32, .f32⟩
  | 67 => ⟨S32, .f32⟩
  | 68 => ⟨S32, .f32⟩
  | 69 => ⟨S32, .f32⟩
  | 70 => ⟨S32, .f32⟩
  | 71 => ⟨S32, .f32⟩
  | 72 => ⟨S32, .f32⟩
  | 73 => ⟨S32, .f32⟩
  | 74 => ⟨S32, .f32⟩
  | 75 => ⟨S32, .f32⟩
  | 76 => ⟨S_, .f32⟩
  | 77 => ⟨S2x32x128, .f32⟩
  | 78 => ⟨S4096x2x32x128, .f32⟩
  | 79 => ⟨S4096x2x32, .f32⟩
  | 80 => ⟨S4096x2x32, .f32⟩
  | 81 => ⟨S_, .f32⟩
  | 82 => ⟨S4096x2x32x128, .f32⟩
  | 83 => ⟨S_, .i32⟩
  | 84 => ⟨S4096x2x32x128, .f32⟩
  | 85 => ⟨S4096x2x32, .f32⟩
  | 86 => ⟨S4096x2x32, .f32⟩
  | 87 => ⟨S32, .f32⟩
  | 88 => ⟨S32, .f32⟩
  | 89 => ⟨S_, .i32⟩
  | 90 => ⟨S2x32x128, .f32⟩
  | 91 => ⟨S4096x2x32x128, .f32⟩
  | 92 => ⟨S_, .i32⟩
  | 93 => ⟨S_, .i1⟩
  | 94 => ⟨S_, .i32⟩
  | 95 => ⟨S_, .i32⟩
  | 96 => ⟨S_, .i32⟩
  | 97 => ⟨S1x2x32x128, .f32⟩
  | 98 => ⟨S2x32x128, .f32⟩
  | 99 => ⟨S_, .i32⟩
  | 100 => ⟨S_, .i32⟩
  | 101 => ⟨S1x2x32, .f32⟩
  | 102 => ⟨S2x32, .f32⟩
  | 103 => ⟨S_, .i32⟩
  | 104 => ⟨S_, .i32⟩
  | 105 => ⟨S1x2x32, .f32⟩
  | 106 => ⟨S2x32, .f32⟩
  | 107 => ⟨S1x32x1, .f32⟩
  | 108 => ⟨S2x32x128, .f32⟩
  | 109 => ⟨S2x32x128, .f32⟩
  | 110 => ⟨S1x32, .f32⟩
  | 111 => ⟨S2x32, .f32⟩
  | 112 => ⟨S2x32, .f32⟩
  | 113 => ⟨S2x32x1, .f32⟩
  | 114 => ⟨S2x32x128, .f32⟩
  | 115 => ⟨S2x32x128, .f32⟩
  | 116 => ⟨S2x32x128, .f32⟩
  | 117 => ⟨S2x32x1, .f32⟩
  | 118 => ⟨S2x32x128, .f32⟩
  | 119 => ⟨S2x32x128, .f32⟩
  | 120 => ⟨S1x2x32x128, .f32⟩
  | 121 => ⟨S_, .i32⟩
  | 122 => ⟨S_, .i32⟩
  | 123 => ⟨S_, .i32⟩
  | 124 => ⟨S4096x2x32x128, .f32⟩
  | 125 => ⟨S_, .i32⟩
  | 126 => ⟨S_, .i32⟩
  | 127 => ⟨S2x4096x32x128, .f32⟩
  | _ => ⟨S2x4096x2560, .f32⟩

abbrev hbmTy0_1 (i : Nat) : BufTy := match i % 128 with
  | 0 => ⟨S2x4096x32x128, .f32⟩
  | 1 => ⟨S_, .f32⟩
  | 2 => ⟨S2x4096x32, .f32⟩
  | 3 => ⟨S2x4096x32x1, .f32⟩
  | 4 => ⟨S_, .f32⟩
  | 5 => ⟨S2x4096x32x1, .f32⟩
  | 6 => ⟨S2x4096x32x1, .f32⟩
  | 7 => ⟨S_, .f32⟩
  | 8 => ⟨S2x4096x32x1, .f32⟩
  | 9 => ⟨S2x4096x32x1, .f32⟩
  | 10 => ⟨S2x4096x32x1, .f32⟩
  | 11 => ⟨S2x4096x32x128, .f32⟩
  | 12 => ⟨S2x4096x32x128, .f32⟩
  | 13 => ⟨S1x1x1x128, .f32⟩
  | 14 => ⟨S2x4096x32x128, .f32⟩
  | 15 => ⟨S2x4096x32x128, .f32⟩
  | 16 => ⟨S2x4096x4096, .f32⟩
  | 17 => ⟨S2x4096x4096, .f32⟩
  | 18 => ⟨S2x4096x4096, .f32⟩
  | 19 => ⟨S_, .f32⟩
  | 20 => ⟨S2x4096x4096, .f32⟩
  | 21 => ⟨S2x4096x4096, .f32⟩
  | 22 => ⟨S_, .f32⟩
  | 23 => ⟨S2x4096x4096, .f32⟩
  | 24 => ⟨S2x4096x4096, .f32⟩
  | 25 => ⟨S2x4096x4096, .f32⟩
  | 26 => ⟨S2x4096x4096, .f32⟩
  | 27 => ⟨S4096x2560, .f32⟩
  | 28 => ⟨S2x4096x2560, .f32⟩
  | _ => ⟨S2x4096x2560, .f32⟩

abbrev hbmTy (i : Nat) : BufTy := match i / 128 with
  | 0 => hbmTy0_0 i
  | 1 => hbmTy0_1 i
  | _ => ⟨S2x4096x2560, .f32⟩

abbrev bufTy : (tb : Table) → Fin (tcTables nBuf tb) → BufTy
  | .hbm, ⟨i, _⟩ => hbmTy i
  | _, _ => ⟨S2x4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call2_cst : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_0 : Ref sig .tc := ⟨.hbm, 81, rfl⟩
abbrev main_v48 : Ref sig .tc := ⟨.hbm, 82, rfl⟩
abbrev main_c_1 : Ref sig .tc := ⟨.hbm, 83, rfl⟩
abbrev main_v49_0 : Ref sig .tc := ⟨.hbm, 84, rfl⟩
abbrev main_v49_1 : Ref sig .tc := ⟨.hbm, 85, rfl⟩
abbrev main_v49_2 : Ref sig .tc := ⟨.hbm, 86, rfl⟩
abbrev main_v49_3 : Ref sig .tc := ⟨.hbm, 87, rfl⟩
abbrev main_v49_4 : Ref sig .tc := ⟨.hbm, 88, rfl⟩
abbrev main_v49_5 : Ref sig .tc := ⟨.hbm, 89, rfl⟩
abbrev main_v49_6 : Ref sig .tc := ⟨.hbm, 90, rfl⟩
abbrev main_v49_7 : Ref sig .tc := ⟨.hbm, 91, rfl⟩
abbrev main_while0c_c_12 : Ref sig .tc := ⟨.hbm, 92, rfl⟩
abbrev main_while0c_v69 : Ref sig .tc := ⟨.hbm, 93, rfl⟩
abbrev main_while0b_call3_c : Ref sig .tc := ⟨.hbm, 94, rfl⟩
abbrev main_while0b_call3_c_0 : Ref sig .tc := ⟨.hbm, 95, rfl⟩
abbrev main_while0b_call3_c_1 : Ref sig .tc := ⟨.hbm, 96, rfl⟩
abbrev main_while0b_call3_v0 : Ref sig .tc := ⟨.hbm, 97, rfl⟩
abbrev main_while0b_v69 : Ref sig .tc := ⟨.hbm, 98, rfl⟩
abbrev main_while0b_call4_c : Ref sig .tc := ⟨.hbm, 99, rfl⟩
abbrev main_while0b_call4_c_0 : Ref sig .tc := ⟨.hbm, 100, rfl⟩
abbrev main_while0b_call4_v0 : Ref sig .tc := ⟨.hbm, 101, rfl⟩
abbrev main_while0b_v70 : Ref sig .tc := ⟨.hbm, 102, rfl⟩
abbrev main_while0b_call5_c : Ref sig .tc := ⟨.hbm, 103, rfl⟩
abbrev main_while0b_call5_c_0 : Ref sig .tc := ⟨.hbm, 104, rfl⟩
abbrev main_while0b_call5_v0 : Ref sig .tc := ⟨.hbm, 105, rfl⟩
abbrev main_while0b_v71 : Ref sig .tc := ⟨.hbm, 106, rfl⟩
abbrev main_while0b_v72 : Ref sig .tc := ⟨.hbm, 107, rfl⟩
abbrev main_while0b_v73 : Ref sig .tc := ⟨.hbm, 108, rfl⟩
abbrev main_while0b_v74 : Ref sig .tc := ⟨.hbm, 109, rfl⟩
abbrev main_while0b_v75 : Ref sig .tc := ⟨.hbm, 110, rfl⟩
abbrev main_while0b_v76 : Ref sig .tc := ⟨.hbm, 111, rfl⟩
abbrev main_while0b_v77 : Ref sig .tc := ⟨.hbm, 112, rfl⟩
abbrev main_while0b_v78 : Ref sig .tc := ⟨.hbm, 113, rfl⟩
abbrev main_while0b_v79 : Ref sig .tc := ⟨.hbm, 114, rfl⟩
abbrev main_while0b_v80 : Ref sig .tc := ⟨.hbm, 115, rfl⟩
abbrev main_while0b_v81 : Ref sig .tc := ⟨.hbm, 116, rfl⟩
abbrev main_while0b_v82 : Ref sig .tc := ⟨.hbm, 117, rfl⟩
abbrev main_while0b_v83 : Ref sig .tc := ⟨.hbm, 118, rfl⟩
abbrev main_while0b_v84 : Ref sig .tc := ⟨.hbm, 119, rfl⟩
abbrev main_while0b_call6_v0 : Ref sig .tc := ⟨.hbm, 120, rfl⟩
abbrev main_while0b_call6_c : Ref sig .tc := ⟨.hbm, 121, rfl⟩
abbrev main_while0b_call6_c_0 : Ref sig .tc := ⟨.hbm, 122, rfl⟩
abbrev main_while0b_call6_c_1 : Ref sig .tc := ⟨.hbm, 123, rfl⟩
abbrev main_while0b_v85 : Ref sig .tc := ⟨.hbm, 124, rfl⟩
abbrev main_while0b_c_12 : Ref sig .tc := ⟨.hbm, 125, rfl⟩
abbrev main_while0b_v86 : Ref sig .tc := ⟨.hbm, 126, rfl⟩
abbrev main_v50 : Ref sig .tc := ⟨.hbm, 127, rfl⟩
abbrev main_v51 : Ref sig .tc := ⟨.hbm, 128, rfl⟩
abbrev main_cst_2 : Ref sig .tc := ⟨.hbm, 129, rfl⟩
abbrev main_v52 : Ref sig .tc := ⟨.hbm, 130, rfl⟩
abbrev main_v53 : Ref sig .tc := ⟨.hbm, 131, rfl⟩
abbrev main_cst_3 : Ref sig .tc := ⟨.hbm, 132, rfl⟩
abbrev main_v54 : Ref sig .tc := ⟨.hbm, 133, rfl⟩
abbrev main_v55 : Ref sig .tc := ⟨.hbm, 134, rfl⟩
abbrev main_cst_4 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_call7_v0 : Ref sig .tc := ⟨.hbm, 145, rfl⟩
abbrev main_call7_v1 : Ref sig .tc := ⟨.hbm, 146, rfl⟩
abbrev main_call7_cst : Ref sig .tc := ⟨.hbm, 147, rfl⟩
abbrev main_call7_v2 : Ref sig .tc := ⟨.hbm, 148, rfl⟩
abbrev main_call7_v3 : Ref sig .tc := ⟨.hbm, 149, rfl⟩
abbrev main_call7_cst_0 : Ref sig .tc := ⟨.hbm, 150, rfl⟩
abbrev main_call7_v4 : Ref sig .tc := ⟨.hbm, 151, rfl⟩
abbrev main_call7_v5 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩

abbrev nD : Nat := 1
abbrev τ : Topo := Topo.v7x

variable {F : FTy → Type} [FloatOps F]

abbrev main_while0_count : Scf.Loop 32 := ⟨0#32, 4096#32, 1#32⟩
-- ==== Proof.Bc.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Bc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The buffers' contents when the region is entered are a parameter. -/
variable (W : Dev nD → Valuation τ sig (Elt F))

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- An input's window holds the array's block before the body, for any proof data that keeps it. -/
theorem before0_0_of {c : Dev nD} (dat : Dat τ (Elt F) Unit ℕ (UR sig nD τ) ℕ cfg0 c) (hA : dat.A 0 = W c (Proc.devRef .tc (Pipeline.arrRef spec0 0)))
    (hafter : ∀ t, dat.after 0 t = iblk W c 0 t) (t : Fin cfg0.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input's window holds the array's block before the body, for any proof data that keeps it. -/
theorem before0_1_of {c : Dev nD} (dat : Dat τ (Elt F) Unit ℕ (UR sig nD τ) ℕ cfg0 c) (hA : dat.A 1 = W c (Proc.devRef .tc (Pipeline.arrRef spec0 1)))
    (hafter : ∀ t, dat.after 1 t = iblk W c 1 t) (t : Fin cfg0.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S1024x2560 := Rect.unit (s := S1024x2560) ![0, 0] S1024x2560.size inb_S1024x2560_S1024x2560_0_0
abbrev r0_1 : Rect S64x2560 := Rect.unit (s := S64x2560) ![0, 0] S64x2560.size inb_S64x2560_S64x2560_0_0
abbrev r0_2 : Rect S1024x64 := Rect.unit (s := S1024x64) ![0, 0] S1024x64.size inb_S1024x64_S1024x64_0_0

/-! ## What the body leaves in each output window's buffer -/

def out0_2 (x0 : Vec F S1024x2560 .f32) (x1 : Vec F S64x2560 .f32) : Vec F S1024x64 .f32 :=
  View.canon [⟨r0_2, k0_pay2 (View.ld x0 r0_0) (View.ld x1 r0_1)⟩]

/-- The body writes its output block whole. -/
theorem cover0_2 (p0 : Vec F S1024x64 .f32) (y : S1024x64.Idx) :
    ∃ pc ∈ ([⟨r0_2, p0⟩] : List (View.Piece (Elt F) S1024x64 .f32)), y ∈ pc.1.set :=
  View.cover_of_tiled [⟨r0_2, p0⟩] S1024x64.size (by rfl) y

def out0_3 (x0 : Vec F S1024x2560 .f32) (x1 : Vec F S64x2560 .f32) : Vec F S1024x2560 .bf16 :=
  View.canon [⟨r0_0, k0_pay3 (View.ld x0 r0_0)⟩]

/-- The body writes its output block whole. -/
theorem cover0_3 (p0 : Vec F S1024x2560 .bf16) (y : S1024x2560.Idx) :
    ∃ pc ∈ ([⟨r0_0, p0⟩] : List (View.Piece (Elt F) S1024x2560 .bf16)), y ∈ pc.1.set :=
  View.cover_of_tiled [⟨r0_0, p0⟩] S1024x2560.size (by rfl) y

/-! ## The body's triple -/

set_option maxHeartbeats 1000000 in
/-- The body runs on its windows and leaves its outputs in them. -/
theorem sound_kernel (c : Dev nD) (E : Set ℕ) (i : grid0.Coords) (arg1 : Memref sig .tc .vmem S1024x2560 .f32) (harg1 : arg1.IsWhole) (arg2 : Memref sig .tc .vmem S64x2560 .f32) (harg2 : arg2.IsWhole) (arg3 : Memref sig .tc .vmem S1024x64 .f32) (harg3 : arg3.IsWhole) (arg4 : Memref sig .tc .vmem S1024x2560 .bf16) (harg4 : arg4.IsWhole)
    (x0 : Vec F S1024x2560 .f32) (x1 : Vec F S64x2560 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0_ssm_bc i arg1 harg1 arg2 harg2 arg3 harg3 arg4 harg4) K := by
  simp only [cc0_ssm_bc_eq_skeleton]; unfold cc0_ssm_bc_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The pipeline's proof data -/

def dat (c : Dev nD) : Dat τ (Elt F) Unit ℕ (UR sig nD τ) ℕ cfg0 c where
  A w := W c (Proc.devRef .tc (Pipeline.arrRef spec0 w))
  after w t := match w with
    | ⟨0, _⟩ => iblk W c 0 t
    | ⟨1, _⟩ => iblk W c 1 t
    | ⟨2, _⟩ => out0_2 (iblk W c 0 t) (iblk W c 1 t)
    | ⟨3, _⟩ => out0_3 (iblk W c 0 t) (iblk W c 1 t)
  Φ _ := Pipeline.ΦA spec0 c
  q _ := fullShare
  owed _ := 0

/-- The arrays the call is entered with. -/
theorem A_eq (c : Dev nD) (w : Fin cfg0.W) : (dat W c).A w = W c (Proc.devRef .tc (Pipeline.arrRef spec0 w)) := by
  dsimp only [dat]

/-- What the window holds after the body. -/
theorem after0_0 (c : Dev nD) (t : Fin cfg0.N) : (dat W c).after 0 t = iblk W c 0 t := by dsimp only [dat]
/-- What the window holds after the body. -/
theorem after0_1 (c : Dev nD) (t : Fin cfg0.N) : (dat W c).after 1 t = iblk W c 1 t := by dsimp only [dat]
/-- What the window holds after the body. -/
theorem after0_2 (c : Dev nD) (t : Fin cfg0.N) : (dat W c).after 2 t = out0_2 (iblk W c 0 t) (iblk W c 1 t) := by dsimp only [dat]
/-- What the window holds after the body. -/
theorem after0_3 (c : Dev nD) (t : Fin cfg0.N) : (dat W c).after 3 t = out0_3 (iblk W c 0 t) (iblk W c 1 t) := by dsimp only [dat]

/-- Before the body an input's window holds the array's block. -/
theorem before0_0 (c : Dev nD) (t : Fin cfg0.N) (d) : (dat W c).before 0 t d = iblk W c 0 t :=
  before0_0_of W (dat W c) (A_eq W c 0) (after0_0 W c) t d
/-- Before the body an input's window holds the array's block. -/
theorem before0_1 (c : Dev nD) (t : Fin cfg0.N) (d) : (dat W c).before 1 t d = iblk W c 1 t :=
  before0_1_of W (dat W c) (A_eq W c 1) (after0_1 W c) t d

/-! ## The body obligation, at a generic point -/

def bodyPre (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d))
    ∗ (∃ d, owns (c : Thread nD τ) (st0_3 t) fullShare ((dat W c).before 3 t d)))

def bodyPost (c : Dev nD) (t : Fin cfg0.N) : sProp 𝕄 :=
  iprop((dat W c).Φ t.succ ∗ (dat W c).owesAt () t.succ
    ∗ owns (c : Thread nD τ) (st0_0 t) fullShare ((dat W c).after 0 t)
    ∗ owns (c : Thread nD τ) (st0_1 t) fullShare ((dat W c).after 1 t)
    ∗ owns (c : Thread nD τ) (st0_2 t) fullShare ((dat W c).after 2 t)
    ∗ owns (c : Thread nD τ) (st0_3 t) fullShare ((dat W c).after 3 t))

/-- The body at a point, from what it is given to what it leaves. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before0_0, before0_1]
  rw [show (dat W c).Φ t.succ = (dat W c).Φ t.castSucc from rfl,
    show (dat W c).owesAt () t.succ = (dat W c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk W c 0 t) (iblk W c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The call's body among the program's definitions. -/
theorem defs₀_row (t : Fin cfg0.N) :
    defs₀ (F := F) .tc cfg0.body (cfg0.bodyArgs t (cfg0.slots t)) = bodyAt0 t := by
  unfold defs₀; rw [Defs.onTc_tc]

/-- The body meets the call's obligation at every point. -/
theorem body_obligation (c : Dev nD) : BodyObligation (dat (F := F) W c) (defs₀ (F := F)) Variants.none () Set.univ := fun t => by
  rw [bigSep_W0, bigSep_W0, defs₀_row]
  exact triple_restated (sound_body W c t) rfl .rfl fun _ => .rfl

end Cert.KernelIdeal.Bc

end
-- ==== Proof.Proj.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The buffers' contents when the region is entered are a parameter. -/
variable (W : Dev nD → Valuation τ sig (Elt F))

/-! ## The windows' blocks -/

def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- An input's window holds the array's block before the body, for any proof data that keeps it. -/
theorem before0_0_of {c : Dev nD} (dat : Dat τ (Elt F) Unit ℕ (UR sig nD τ) ℕ cfg1 c) (hA : dat.A 0 = W c (Proc.devRef .tc (Pipeline.arrRef spec1 0)))
    (hafter : ∀ t, dat.after 0 t = iblk W c 0 t) (t : Fin cfg1.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input's window holds the array's block before the body, for any proof data that keeps it. -/
theorem before0_1_of {c : Dev nD} (dat : Dat τ (Elt F) Unit ℕ (UR sig nD τ) ℕ cfg1 c) (hA : dat.A 1 = W c (Proc.devRef .tc (Pipeline.arrRef spec1 1)))
    (hafter : ∀ t, dat.after 1 t = iblk W c 1 t) (t : Fin cfg1.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S2048x2560 := Rect.unit (s := S2048x2560) ![0, 0] S2048x2560.size inb_S2048x2560_S2048x2560_0_0
abbrev r0_1 : Rect S1024x2560 := Rect.unit (s := S1024x2560) ![0, 0] S1024x2560.size inb_S1024x2560_S1024x2560_0_0
abbrev r0_2 : Rect S2048x1024 := Rect.unit (s := S2048x1024) ![0, 0] S2048x1024.size inb_S2048x1024_S2048x1024_0_0

/-! ## What the body leaves in each output window's buffer -/

def out0_2 (x0 : Vec F S2048x2560 .bf16) (x1 : Vec F S1024x2560 .bf16) : Vec F S2048x1024 .bf16 :=
  View.canon [⟨r0_2, k1_pay1 (View.ld x0 r0_0) (View.ld x1 r0_1)⟩]

/-- The body writes its output block whole. -/
theorem cover0_2 (p0 : Vec F S2048x1024 .bf16) (y : S2048x1024.Idx) :
    ∃ pc ∈ ([⟨r0_2, p0⟩] : List (View.Piece (Elt F) S2048x1024 .bf16)), y ∈ pc.1.set :=
  View.cover_of_tiled [⟨r0_2, p0⟩] S2048x1024.size (by rfl) y

/-! ## The body's triple -/

set_option maxHeartbeats 1000000 in
/-- The body runs on its windows and leaves its outputs in them. -/
theorem sound_kernel (c : Dev nD) (E : Set ℕ) (i : grid1.Coords) (arg2 : Memref sig .tc .vmem S2048x2560 .bf16) (harg2 : arg2.IsWhole) (arg3 : Memref sig .tc .vmem S1024x2560 .bf16) (harg3 : arg3.IsWhole) (arg4 : Memref sig .tc .vmem S2048x1024 .bf16) (harg4 : arg4.IsWhole)
    (x0 : Vec F S2048x2560 .bf16) (x1 : Vec F S1024x2560 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc1_ssm_proj i arg2 harg2 arg3 harg3 arg4 harg4) K := by
  simp only [cc1_ssm_proj_eq_skeleton]; unfold cc1_ssm_proj_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

def dat (c : Dev nD) : Dat τ (Elt F) Unit ℕ (UR sig nD τ) ℕ cfg1 c where
  A w := W c (Proc.devRef .tc (Pipeline.arrRef spec1 w))
  after w t := match w with
    | ⟨0, _⟩ => iblk W c 0 t
    | ⟨1, _⟩ => iblk W c 1 t
    | ⟨2, _⟩ => out0_2 (iblk W c 0 t) (iblk W c 1 t)
  Φ _ := Pipeline.ΦA spec1 c
  q _ := fullShare
  owed _ := 0

/-- The arrays the call is entered with. -/
theorem A_eq (c : Dev nD) (w : Fin cfg1.W) : (dat W c).A w = W c (Proc.devRef .tc (Pipeline.arrRef spec1 w)) := by
  dsimp only [dat]

/-- What the window holds after the body. -/
theorem after0_0 (c : Dev nD) (t : Fin cfg1.N) : (dat W c).after 0 t = iblk W c 0 t := by dsimp only [dat]
/-- What the window holds after the body. -/
theorem after0_1 (c : Dev nD) (t : Fin cfg1.N) : (dat W c).after 1 t = iblk W c 1 t := by dsimp only [dat]
/-- What the window holds after the body. -/
theorem after0_2 (c : Dev nD) (t : Fin cfg1.N) : (dat W c).after 2 t = out0_2 (iblk W c 0 t) (iblk W c 1 t) := by dsimp only [dat]

/-- Before the body an input's window holds the array's block. -/
theorem before0_0 (c : Dev nD) (t : Fin cfg1.N) (d) : (dat W c).before 0 t d = iblk W c 0 t :=
  before0_0_of W (dat W c) (A_eq W c 0) (after0_0 W c) t d
/-- Before the body an input's window holds the array's block. -/
theorem before0_1 (c : Dev nD) (t : Fin cfg1.N) (d) : (dat W c).before 1 t d = iblk W c 1 t :=
  before0_1_of W (dat W c) (A_eq W c 1) (after0_1 W c) t d

/-! ## The body obligation, at a generic point -/

def bodyPre (c : Dev nD) (t : Fin cfg1.N) : sProp 𝕄 :=
  iprop((dat W c).Φ t.castSucc ∗ (dat W c).owesAt () t.castSucc
    ∗ (∃ d, owns (c : Thread nD τ) (st1_0 t) fullShare ((dat W c).before 0 t d))
    ∗ (∃ d, owns (c : Thread nD τ) (st1_1 t) fullShare ((dat W c).before 1 t d))
    ∗ (∃ d, owns (c : Thread nD τ) (st1_2 t) fullShare ((dat W c).before 2 t d)))

def bodyPost (c : Dev nD) (t : Fin cfg1.N) : sProp 𝕄 :=
  iprop((dat W c).Φ t.succ ∗ (dat W c).owesAt () t.succ
    ∗ owns (c : Thread nD τ) (st1_0 t) fullShare ((dat W c).after 0 t)
    ∗ owns (c : Thread nD τ) (st1_1 t) fullShare ((dat W c).after 1 t)
    ∗ owns (c : Thread nD τ) (st1_2 t) fullShare ((dat W c).after 2 t))

/-- The body at a point, from what it is given to what it leaves. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before0_0, before0_1]
  rw [show (dat W c).Φ t.succ = (dat W c).Φ t.castSucc from rfl,
    show (dat W c).owesAt () t.succ = (dat W c).owesAt () t.castSucc from rfl,
    after0_0, after0_1, after0_2]
  iintro ⟨HΦ, Ho, ⟨%d0, H0⟩, ⟨%d1, H1⟩, ⟨%d2, H2⟩⟩
  iapply (sound_kernel c Set.univ (grid1.coords t) _ _ _ _ _ _ (iblk W c 0 t) (iblk W c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The call's body among the program's definitions. -/
theorem defs₀_row (t : Fin cfg1.N) :
    defs₀ (F := F) .tc cfg1.body (cfg1.bodyArgs t (cfg1.slots t)) = bodyAt1 t := by
  unfold defs₀; rw [Defs.onTc_tc]

/-- The body meets the call's obligation at every point. -/
theorem body_obligation (c : Dev nD) : BodyObligation (dat (F := F) W c) (defs₀ (F := F)) Variants.none () Set.univ := fun t => by
  rw [bigSep_W1, bigSep_W1, defs₀_row]
  exact triple_restated (sound_body W c t) rfl .rfl fun _ => .rfl

end Cert.KernelIdeal.Proj

end
-- ==== Proof.Out.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The buffers' contents when the region is entered are a parameter. -/
variable (W : Dev nD → Valuation τ sig (Elt F))

/-! ## The windows' blocks -/

def iblk (c : Dev nD) (w : Fin cfg3.W) (t : Fin cfg3.N) : ((cfg3.win w).xblock (cfg3.grid.coords t)).Idx → Elt F (cfg3.win w).elt :=
  ((cfg3.win w).blk t).view.read (Elt F) (W c (Proc.devRef .tc (Pipeline.arrRef spec3 w)))

/-- An input's window holds the array's block before the body, for any proof data that keeps it. -/
theorem before0_0_of {c : Dev nD} (dat : Dat τ (Elt F) Unit ℕ (UR sig nD τ) ℕ cfg3 c) (hA : dat.A 0 = W c (Proc.devRef .tc (Pipeline.arrRef spec3 0)))
    (hafter : ∀ t, dat.after 0 t = iblk W c 0 t) (t : Fin cfg3.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input's window holds the array's block before the body, for any proof data that keeps it. -/
theorem before0_1_of {c : Dev nD} (dat : Dat τ (Elt F) Unit ℕ (UR sig nD τ) ℕ cfg3 c) (hA : dat.A 1 = W c (Proc.devRef .tc (Pipeline.arrRef spec3 1)))
    (hafter : ∀ t, dat.after 1 t = iblk W c 1 t) (t : Fin cfg3.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S1024x4096 := Rect.unit (s := S1024x4096) ![0, 0] S1024x4096.size inb_S1024x4096_S1024x4096_0_0
abbrev r0_1 : Rect S1280x4096 := Rect.unit (s := S1280x4096) ![0, 0] S1280x4096.size inb_S1280x4096_S1280x4096_0_0
abbrev r0_2 : Rect S1024x1280 := Rect.unit (s := S1024x1280) ![0, 0] S1024x1280.size inb_S1024x1280_S1024x1280_0_0

/-! ## What the body leaves in each output window's buffer -/

def out0_2 (x0 : Vec F S1024x4096 .bf16) (x1 : Vec F S1280x4096 .bf16) : Vec F S1024x1280 .f32 :=
  View.canon [⟨r0_2, k3_pay1 (View.ld x0 r0_0) (View.ld x1 r0_1)⟩]

/-- The body writes its output block whole. -/
theorem cover0_2 (p0 : Vec F S1024x1280 .f32) (y : S1024x1280.Idx) :
    ∃ pc ∈ ([⟨r0_2, p0⟩] : List (View.Piece (Elt F) S1024x1280 .f32)), y ∈ pc.1.set :=
  View.cover_of_tiled [⟨r0_2, p0⟩] S1024x1280.size (by rfl) y

/-! ## The body's triple -/

set_option maxHeartbeats 1000000 in
/-- The body runs on its windows and leaves its outputs in them. -/
theorem sound_kernel (c : Dev nD) (E : Set ℕ) (i : grid3.Coords) (arg2 : Memref sig .tc .vmem S1024x4096 .bf16) (harg2 : arg2.IsWhole) (arg3 : Memref sig .tc .vmem S1280x4096 .bf16) (harg3 : arg3.IsWhole) (arg4 : Memref sig .tc .vmem S1024x1280 .f32) (harg4 : arg4.IsWhole)
    (x0 : Vec F S1024x4096 .bf16) (x1 : Vec F S1280x4096 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc3_ssm_out i arg2 harg2 arg3 harg3 arg4 harg4) K := by
  simp only [cc3_ssm_out_eq_skeleton]; unfold cc3_ssm_out_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

def dat (c : Dev nD) : Dat τ (Elt F) Unit ℕ (UR sig nD τ) ℕ cfg3 c where
  A w := W c (Proc.devRef .tc (Pipeline.arrRef spec3 w))
  after w t := match w with
    | ⟨0, _⟩ => iblk W c 0 t
    | ⟨1, _⟩ => iblk W c 1 t
    | ⟨2, _⟩ => out0_2 (iblk W c 0 t) (iblk W c 1 t)
  Φ _ := Pipeline.ΦA spec3 c
  q _ := fullShare
  owed _ := 0

/-- The arrays the call is entered with. -/
theorem A_eq (c : Dev nD) (w : Fin cfg3.W) : (dat W c).A w = W c (Proc.devRef .tc (Pipeline.arrRef spec3 w)) := by
  dsimp only [dat]

/-- What the window holds after the body. -/
theorem after0_0 (c : Dev nD) (t : Fin cfg3.N) : (dat W c).after 0 t = iblk W c 0 t := by dsimp only [dat]
/-- What the window holds after the body. -/
theorem after0_1 (c : Dev nD) (t : Fin cfg3.N) : (dat W c).after 1 t = iblk W c 1 t := by dsimp only [dat]
/-- What the window holds after the body. -/
theorem after0_2 (c : Dev nD) (t : Fin cfg3.N) : (dat W c).after 2 t = out0_2 (iblk W c 0 t) (iblk W c 1 t) := by dsimp only [dat]

/-- Before the body an input's window holds the array's block. -/
theorem before0_0 (c : Dev nD) (t : Fin cfg3.N) (d) : (dat W c).before 0 t d = iblk W c 0 t :=
  before0_0_of W (dat W c) (A_eq W c 0) (after0_0 W c) t d
/-- Before the body an input's window holds the array's block. -/
theorem before0_1 (c : Dev nD) (t : Fin cfg3.N) (d) : (dat W c).before 1 t d = iblk W c 1 t :=
  before0_1_of W (dat W c) (A_eq W c 1) (after0_1 W c) t d

/-! ## The body obligation, at a generic point -/

def bodyPre (c : Dev nD) (t : Fin cfg3.N) : sProp 𝕄 :=
  iprop((dat W c).Φ t.castSucc ∗ (dat W c).owesAt () t.castSucc
    ∗ (∃ d, owns (c : Thread nD τ) (st3_0 t) fullShare ((dat W c).before 0 t d))
    ∗ (∃ d, owns (c : Thread nD τ) (st3_1 t) fullShare ((dat W c).before 1 t d))
    ∗ (∃ d, owns (c : Thread nD τ) (st3_2 t) fullShare ((dat W c).before 2 t d)))

def bodyPost (c : Dev nD) (t : Fin cfg3.N) : sProp 𝕄 :=
  iprop((dat W c).Φ t.succ ∗ (dat W c).owesAt () t.succ
    ∗ owns (c : Thread nD τ) (st3_0 t) fullShare ((dat W c).after 0 t)
    ∗ owns (c : Thread nD τ) (st3_1 t) fullShare ((dat W c).after 1 t)
    ∗ owns (c : Thread nD τ) (st3_2 t) fullShare ((dat W c).after 2 t))

/-- The body at a point, from what it is given to what it leaves. -/
theorem sound_body (c : Dev nD) (t : Fin cfg3.N) :
    bodyPre W c t ⊢ wp frame (wpE (defs₀ (F := F)) Variants.none c none) Set.univ (bodyAt3 t) (fun _ => bodyPost W c t) := by
  unfold bodyPre bodyPost bodyAt3
  simp only [before0_0, before0_1]
  rw [show (dat W c).Φ t.succ = (dat W c).Φ t.castSucc from rfl,
    show (dat W c).owesAt () t.succ = (dat W c).owesAt () t.castSucc from rfl,
    after0_0, after0_1, after0_2]
  iintro ⟨HΦ, Ho, ⟨%d0, H0⟩, ⟨%d1, H1⟩, ⟨%d2, H2⟩⟩
  iapply (sound_kernel c Set.univ (grid3.coords t) _ _ _ _ _ _ (iblk W c 0 t) (iblk W c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The call's body among the program's definitions. -/
theorem defs₀_row (t : Fin cfg3.N) :
    defs₀ (F := F) .tc cfg3.body (cfg3.bodyArgs t (cfg3.slots t)) = bodyAt3 t := by
  unfold defs₀; rw [Defs.onTc_tc]

/-- The body meets the call's obligation at every point. -/
theorem body_obligation (c : Dev nD) : BodyObligation (dat (F := F) W c) (defs₀ (F := F)) Variants.none () Set.univ := fun t => by
  rw [bigSep_W3, bigSep_W3, defs₀_row]
  exact triple_restated (sound_body W c t) rfl .rfl fun _ => .rfl

end Cert.KernelIdeal.Out

end
-- ==== Proof.ScanRuns.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The buffers' contents when the region is entered are a parameter. -/
variable (W : Dev nD → Valuation τ sig (Elt F))

/-! ## The windows' blocks -/

def iblk (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- An input's window holds the array's block before the body, for any proof data that keeps it. -/
theorem before_0_of {c : Dev nD} (dat : Dat τ (Elt F) Unit ℕ (UR sig nD τ) ℕ cfg2 c) (hA : dat.A 0 = W c (Proc.devRef .tc (Pipeline.arrRef spec2 0)))
    (hafter : ∀ t, dat.after 0 t = iblk W c 0 t) (t : Fin cfg2.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input's window holds the array's block before the body, for any proof data that keeps it. -/
theorem before_1_of {c : Dev nD} (dat : Dat τ (Elt F) Unit ℕ (UR sig nD τ) ℕ cfg2 c) (hA : dat.A 1 = W c (Proc.devRef .tc (Pipeline.arrRef spec2 1)))
    (hafter : ∀ t, dat.after 1 t = iblk W c 1 t) (t : Fin cfg2.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- An input's window holds the array's block before the body, for any proof data that keeps it. -/
theorem before_2_of {c : Dev nD} (dat : Dat τ (Elt F) Unit ℕ (UR sig nD τ) ℕ cfg2 c) (hA : dat.A 2 = W c (Proc.devRef .tc (Pipeline.arrRef spec2 2)))
    (hafter : ∀ t, dat.after 2 t = iblk W c 2 t) (t : Fin cfg2.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- An input's window holds the array's block before the body, for any proof data that keeps it. -/
theorem before_3_of {c : Dev nD} (dat : Dat τ (Elt F) Unit ℕ (UR sig nD τ) ℕ cfg2 c) (hA : dat.A 3 = W c (Proc.devRef .tc (Pipeline.arrRef spec2 3)))
    (hafter : ∀ t, dat.after 3 t = iblk W c 3 t) (t : Fin cfg2.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- An input's window holds the array's block before the body, for any proof data that keeps it. -/
theorem before_4_of {c : Dev nD} (dat : Dat τ (Elt F) Unit ℕ (UR sig nD τ) ℕ cfg2 c) (hA : dat.A 4 = W c (Proc.devRef .tc (Pipeline.arrRef spec2 4)))
    (hafter : ∀ t, dat.after 4 t = iblk W c 4 t) (t : Fin cfg2.N) (d) : dat.before 4 t d = iblk W c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- An input's window holds the array's block before the body, for any proof data that keeps it. -/
theorem before_5_of {c : Dev nD} (dat : Dat τ (Elt F) Unit ℕ (UR sig nD τ) ℕ cfg2 c) (hA : dat.A 5 = W c (Proc.devRef .tc (Pipeline.arrRef spec2 5)))
    (hafter : ∀ t, dat.after 5 t = iblk W c 5 t) (t : Fin cfg2.N) (d) : dat.before 5 t d = iblk W c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- An input's window holds the array's block before the body, for any proof data that keeps it. -/
theorem before_6_of {c : Dev nD} (dat : Dat τ (Elt F) Unit ℕ (UR sig nD τ) ℕ cfg2 c) (hA : dat.A 6 = W c (Proc.devRef .tc (Pipeline.arrRef spec2 6)))
    (hafter : ∀ t, dat.after 6 t = iblk W c 6 t) (t : Fin cfg2.N) (d) : dat.before 6 t d = iblk W c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- An input's window holds the array's block before the body, for any proof data that keeps it. -/
theorem before_7_of {c : Dev nD} (dat : Dat τ (Elt F) Unit ℕ (UR sig nD τ) ℕ cfg2 c) (hA : dat.A 7 = W c (Proc.devRef .tc (Pipeline.arrRef spec2 7)))
    (hafter : ∀ t, dat.after 7 t = iblk W c 7 t) (t : Fin cfg2.N) (d) : dat.before 7 t d = iblk W c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- An input's window holds the array's block before the body, for any proof data that keeps it. -/
theorem before_8_of {c : Dev nD} (dat : Dat τ (Elt F) Unit ℕ (UR sig nD τ) ℕ cfg2 c) (hA : dat.A 8 = W c (Proc.devRef .tc (Pipeline.arrRef spec2 8)))
    (hafter : ∀ t, dat.after 8 t = iblk W c 8 t) (t : Fin cfg2.N) (d) : dat.before 8 t d = iblk W c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

abbrev cond_0 (i : grid2.Coords) : Prop := (Scalar.cmpi .ne (Scalar.extui (Scalar.cmpi .eq (BitVec.ofNat 32 (i 1).val) 0#32)) 0#32) = 1#1
/-- The first block's condition holds exactly at a batch's first point. -/
theorem hcond_0 : ∀ t : Fin cfg2.N, cond_0 (grid2.coords t) ↔ t.val % 16 = 0 :=
  (fun t => by
    have ht : t.val < 32 := Nat.lt_of_lt_of_eq t.isLt N_2
    have e0 : (grid2.coords t 0).val = t.val / 16 % 2 := Pipeline.Grid.coords_val t 0 (by decide) rfl
    have e1 : (grid2.coords t 1).val = t.val / 1 % 16 := Pipeline.Grid.coords_val t 1 (by decide) rfl
    simp only [cond_0, e0, e1]
    word_cmp
   : ∀ t : Fin grid2.N, cond_0 (grid2.coords t) ↔ t.val % 16 = 0)

/-! ## The kernel body on any staging memrefs: a subtype the run finds -/

abbrev VO_9 : View sig .tc .vmem S1x256x4096 .bf16 := (Memref.whole cc2_stg9_0 : Memref sig .tc .vmem S1x256x4096 .bf16).view
abbrev ms_0 (t : Fin cfg2.N) : Memref sig .tc .vmem S1x256x8192 .bf16 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S1x256x64 .f32 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S32x264x256 .f32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S32x4096 .f32 := win2_3.stage (cfg2.slots t 3)
abbrev hs_3 (t : Fin cfg2.N) : (ms_3 t).IsWhole := hstage2_3 ((cfg2.slots t 3).cast nbuf2_3)
abbrev ms_4 (t : Fin cfg2.N) : Memref sig .tc .vmem S4096x32 .f32 := win2_4.stage (cfg2.slots t 4)
abbrev hs_4 (t : Fin cfg2.N) : (ms_4 t).IsWhole := hstage2_4 ((cfg2.slots t 4).cast nbuf2_4)
abbrev ms_5 (t : Fin cfg2.N) : Memref sig .tc .vmem S256x4096 .f32 := win2_5.stage (cfg2.slots t 5)
abbrev hs_5 (t : Fin cfg2.N) : (ms_5 t).IsWhole := hstage2_5 ((cfg2.slots t 5).cast nbuf2_5)
abbrev ms_6 (t : Fin cfg2.N) : Memref sig .tc .vmem S1x4096 .f32 := win2_6.stage (cfg2.slots t 6)
abbrev hs_6 (t : Fin cfg2.N) : (ms_6 t).IsWhole := hstage2_6 ((cfg2.slots t 6).cast nbuf2_6)
abbrev ms_7 (t : Fin cfg2.N) : Memref sig .tc .vmem S4x8192 .f32 := win2_7.stage (cfg2.slots t 7)
abbrev hs_7 (t : Fin cfg2.N) : (ms_7 t).IsWhole := hstage2_7 ((cfg2.slots t 7).cast nbuf2_7)
abbrev ms_8 (t : Fin cfg2.N) : Memref sig .tc .vmem S1x4096 .f32 := win2_8.stage (cfg2.slots t 8)
abbrev hs_8 (t : Fin cfg2.N) : (ms_8 t).IsWhole := hstage2_8 ((cfg2.slots t 8).cast nbuf2_8)
abbrev ms_9 (t : Fin cfg2.N) : Memref sig .tc .vmem S1x256x4096 .bf16 := win2_9.stage (cfg2.slots t 9)
abbrev hs_9 (t : Fin cfg2.N) : (ms_9 t).IsWhole := hstage2_9 ((cfg2.slots t 9).cast nbuf2_9)
abbrev scM_0 : Memref sig .tc .vmem S8x4096 .f32 := Memref.whole cc2_scratch0
abbrev scM_1 : Memref sig .tc .vmem S8x8192 .f32 := Memref.whole cc2_scratch1
abbrev VS_0 : View sig .tc .vmem S8x4096 .f32 := scM_0.view
abbrev VS_1 : View sig .tc .vmem S8x8192 .f32 := scM_1.view

/-- The scoped buffers other than this call's staging buffers and scratch, and the generator register: untouched by the body. -/
def others (c : Dev nD) : sProp 𝕄 :=
  iprop(Pipeline.scopedRestBut spec2 c [cc2_scratch0, cc2_scratch1] ∗ (∃ r, prngReg c r))

/-- The invariant before the first point, with the two scratch operands as memrefs owned at some contents. -/
theorem PhiA_eq (c : Dev nD) :
    (Pipeline.ΦA spec2 c : sProp 𝕄)
      = iprop(iprop((∃ d, owns (c : Thread nD τ) scM_0 fullShare d) ∗ (∃ d, owns (c : Thread nD τ) scM_1 fullShare d)) ∗ others c) := by
  unfold Pipeline.ΦA others
  rw [Pipeline.scopedRest_split_of_list spec2 c [cc2_scratch0, cc2_scratch1] (by decide) (by decide)]
  simp only [scM_0, scM_1, owns_whole]
  exact sep_assoc.antisymm sep_assoc'

end Cert.KernelIdeal.Scan

end
-- ==== Proof.ScanA.lean ====
module

public import proofs.«01_k».proof.Proof.ScanRuns
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The buffers' contents when the region is entered are a parameter. -/
variable (W : Dev nD → Valuation τ sig (Elt F))

-- (the run's proof term is large: the definition's epilogue — `abstractNestedProofs` — walks it past the default budget)
set_option maxHeartbeats 1000000 in
noncomputable def kernelRun_A (c : Dev nD) (i : grid2.Coords) (arg2 : Memref sig .tc .vmem S1x256x8192 .bf16) (harg2 : arg2.IsWhole) (arg3 : Memref sig .tc .vmem S1x256x64 .f32) (harg3 : arg3.IsWhole) (arg4 : Memref sig .tc .vmem S32x264x256 .f32) (harg4 : arg4.IsWhole) (arg5 : Memref sig .tc .vmem S32x4096 .f32) (harg5 : arg5.IsWhole) (arg6 : Memref sig .tc .vmem S4096x32 .f32) (harg6 : arg6.IsWhole) (arg7 : Memref sig .tc .vmem S256x4096 .f32) (harg7 : arg7.IsWhole) (arg8 : Memref sig .tc .vmem S1x4096 .f32) (harg8 : arg8.IsWhole) (arg9 : Memref sig .tc .vmem S4x8192 .f32) (harg9 : arg9.IsWhole) (arg10 : Memref sig .tc .vmem S1x4096 .f32) (harg10 : arg10.IsWhole) (arg11 : Memref sig .tc .vmem S1x256x4096 .bf16) (harg11 : arg11.IsWhole) (arg12 : Memref sig .tc .vmem S8x4096 .f32) (harg12 : arg12.IsWhole) (arg13 : Memref sig .tc .vmem S8x8192 .f32) (harg13 : arg13.IsWhole) (hc0 : cond_0 i)
    (x0 : Vec F S1x256x8192 .bf16) (x1 : Vec F S1x256x64 .f32) (x2 : Vec F S32x264x256 .f32) (x3 : Vec F S32x4096 .f32) (x4 : Vec F S4096x32 .f32) (x5 : Vec F S256x4096 .f32) (x6 : Vec F S1x4096 .f32) (x7 : Vec F S4x8192 .f32) (x8 : Vec F S1x4096 .f32) :
    Σ' (L9 : List (View.Piece (Elt F) S1x256x4096 .bf16)), Σ' (LS0 : List (View.Piece (Elt F) S8x4096 .f32)), { LS1 : List (View.Piece (Elt F) S8x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc2_ssm_scan i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc2_ssm_scan_eq_skeleton]; unfold cc2_ssm_scan_skel
    simp only [k2_part1_eq_skeleton, k2_part2_eq_skeleton, k2_part3_eq_skeleton, k2_part4_eq_skeleton, k2_part5_eq_skeleton, k2_part6_eq_skeleton, k2_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    iexists _; iexact HS1

end Cert.KernelIdeal.Scan

end
-- ==== Proof.ScanB.lean ====
module

public import proofs.«01_k».proof.Proof.ScanA
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The buffers' contents when the region is entered are a parameter. -/
variable (W : Dev nD → Valuation τ sig (Elt F))

-- (the run's proof term is large: the definition's epilogue — `abstractNestedProofs` — walks it past the default budget)
set_option maxHeartbeats 1000000 in
noncomputable def kernelRun_B (c : Dev nD) (i : grid2.Coords) (arg2 : Memref sig .tc .vmem S1x256x8192 .bf16) (harg2 : arg2.IsWhole) (arg3 : Memref sig .tc .vmem S1x256x64 .f32) (harg3 : arg3.IsWhole) (arg4 : Memref sig .tc .vmem S32x264x256 .f32) (harg4 : arg4.IsWhole) (arg5 : Memref sig .tc .vmem S32x4096 .f32) (harg5 : arg5.IsWhole) (arg6 : Memref sig .tc .vmem S4096x32 .f32) (harg6 : arg6.IsWhole) (arg7 : Memref sig .tc .vmem S256x4096 .f32) (harg7 : arg7.IsWhole) (arg8 : Memref sig .tc .vmem S1x4096 .f32) (harg8 : arg8.IsWhole) (arg9 : Memref sig .tc .vmem S4x8192 .f32) (harg9 : arg9.IsWhole) (arg10 : Memref sig .tc .vmem S1x4096 .f32) (harg10 : arg10.IsWhole) (arg11 : Memref sig .tc .vmem S1x256x4096 .bf16) (harg11 : arg11.IsWhole) (arg12 : Memref sig .tc .vmem S8x4096 .f32) (harg12 : arg12.IsWhole) (arg13 : Memref sig .tc .vmem S8x8192 .f32) (harg13 : arg13.IsWhole) (hc0 : ¬cond_0 i)
    (x0 : Vec F S1x256x8192 .bf16) (x1 : Vec F S1x256x64 .f32) (x2 : Vec F S32x264x256 .f32) (x3 : Vec F S32x4096 .f32) (x4 : Vec F S4096x32 .f32) (x5 : Vec F S256x4096 .f32) (x6 : Vec F S1x4096 .f32) (x7 : Vec F S4x8192 .f32) (x8 : Vec F S1x4096 .f32) (xs0 : Vec F S8x4096 .f32) (xs1 : Vec F S8x8192 .f32) :
    Σ' (L9 : List (View.Piece (Elt F) S1x256x4096 .bf16)), Σ' (LS0 : List (View.Piece (Elt F) S8x4096 .f32)), { LS1 : List (View.Piece (Elt F) S8x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread xs0) LS0) ∗ (arg13.view.loc (c : Thread nD τ) ↦[arg13.view.set]{fullShare} arg13.view.writes (Elt F) (harg13.unread xs1) LS1)) -∗ K ⟨⟩))
          ⊢ wp frame (wpE (defs₀ (F := F)) Variants.none c none) E (cc2_ssm_scan i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc2_ssm_scan_eq_skeleton]; unfold cc2_ssm_scan_skel
    simp only [k2_part1_eq_skeleton, k2_part2_eq_skeleton, k2_part3_eq_skeleton, k2_part4_eq_skeleton, k2_part5_eq_skeleton, k2_part6_eq_skeleton, k2_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexact HS0
    iexact HS1

end Cert.KernelIdeal.Scan

end
-- ==== Proof.Scan.lean ====
module

public import proofs.«01_k».proof.Proof.ScanB
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The buffers' contents when the region is entered are a parameter. -/
variable (W : Dev nD → Valuation τ sig (Elt F))

/-- At a batch's first point the output block is written whole. -/
theorem cover_A_9 (c : Dev nD) (i : grid2.Coords) (arg2 : Memref sig .tc .vmem S1x256x8192 .bf16) (harg2 : arg2.IsWhole) (arg3 : Memref sig .tc .vmem S1x256x64 .f32) (harg3 : arg3.IsWhole) (arg4 : Memref sig .tc .vmem S32x264x256 .f32) (harg4 : arg4.IsWhole) (arg5 : Memref sig .tc .vmem S32x4096 .f32) (harg5 : arg5.IsWhole) (arg6 : Memref sig .tc .vmem S4096x32 .f32) (harg6 : arg6.IsWhole) (arg7 : Memref sig .tc .vmem S256x4096 .f32) (harg7 : arg7.IsWhole) (arg8 : Memref sig .tc .vmem S1x4096 .f32) (harg8 : arg8.IsWhole) (arg9 : Memref sig .tc .vmem S4x8192 .f32) (harg9 : arg9.IsWhole) (arg10 : Memref sig .tc .vmem S1x4096 .f32) (harg10 : arg10.IsWhole) (arg11 : Memref sig .tc .vmem S1x256x4096 .bf16) (harg11 : arg11.IsWhole) (arg12 : Memref sig .tc .vmem S8x4096 .f32) (harg12 : arg12.IsWhole) (arg13 : Memref sig .tc .vmem S8x8192 .f32) (harg13 : arg13.IsWhole) (hc0 : cond_0 i)
    (x0 : Vec F S1x256x8192 .bf16) (x1 : Vec F S1x256x64 .f32) (x2 : Vec F S32x264x256 .f32) (x3 : Vec F S32x4096 .f32) (x4 : Vec F S4096x32 .f32) (x5 : Vec F S256x4096 .f32) (x6 : Vec F S1x4096 .f32) (x7 : Vec F S4x8192 .f32) (x8 : Vec F S1x4096 .f32) (y : S1x256x4096.Idx) :
    ∃ pc ∈ (kernelRun_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1 S1x256x4096.size (by sl_kernel_rfl) y

def out_A_9 (c : Dev nD) (i : grid2.Coords) (arg2 : Memref sig .tc .vmem S1x256x8192 .bf16) (harg2 : arg2.IsWhole) (arg3 : Memref sig .tc .vmem S1x256x64 .f32) (harg3 : arg3.IsWhole) (arg4 : Memref sig .tc .vmem S32x264x256 .f32) (harg4 : arg4.IsWhole) (arg5 : Memref sig .tc .vmem S32x4096 .f32) (harg5 : arg5.IsWhole) (arg6 : Memref sig .tc .vmem S4096x32 .f32) (harg6 : arg6.IsWhole) (arg7 : Memref sig .tc .vmem S256x4096 .f32) (harg7 : arg7.IsWhole) (arg8 : Memref sig .tc .vmem S1x4096 .f32) (harg8 : arg8.IsWhole) (arg9 : Memref sig .tc .vmem S4x8192 .f32) (harg9 : arg9.IsWhole) (arg10 : Memref sig .tc .vmem S1x4096 .f32) (harg10 : arg10.IsWhole) (arg11 : Memref sig .tc .vmem S1x256x4096 .bf16) (harg11 : arg11.IsWhole) (arg12 : Memref sig .tc .vmem S8x4096 .f32) (harg12 : arg12.IsWhole) (arg13 : Memref sig .tc .vmem S8x8192 .f32) (harg13 : arg13.IsWhole) (hc0 : cond_0 i)
    (x0 : Vec F S1x256x8192 .bf16) (x1 : Vec F S1x256x64 .f32) (x2 : Vec F S32x264x256 .f32) (x3 : Vec F S32x4096 .f32) (x4 : Vec F S4096x32 .f32) (x5 : Vec F S256x4096 .f32) (x6 : Vec F S1x4096 .f32) (x7 : Vec F S4x8192 .f32) (x8 : Vec F S1x4096 .f32) : Vec F S1x256x4096 .bf16 :=
  VO_9.read (Elt F) (VO_9.writes (Elt F) VO_9.junk (kernelRun_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1)

/-- At a batch's first point the state scratch is written whole. -/
theorem scover_A_0 (c : Dev nD) (i : grid2.Coords) (arg2 : Memref sig .tc .vmem S1x256x8192 .bf16) (harg2 : arg2.IsWhole) (arg3 : Memref sig .tc .vmem S1x256x64 .f32) (harg3 : arg3.IsWhole) (arg4 : Memref sig .tc .vmem S32x264x256 .f32) (harg4 : arg4.IsWhole) (arg5 : Memref sig .tc .vmem S32x4096 .f32) (harg5 : arg5.IsWhole) (arg6 : Memref sig .tc .vmem S4096x32 .f32) (harg6 : arg6.IsWhole) (arg7 : Memref sig .tc .vmem S256x4096 .f32) (harg7 : arg7.IsWhole) (arg8 : Memref sig .tc .vmem S1x4096 .f32) (harg8 : arg8.IsWhole) (arg9 : Memref sig .tc .vmem S4x8192 .f32) (harg9 : arg9.IsWhole) (arg10 : Memref sig .tc .vmem S1x4096 .f32) (harg10 : arg10.IsWhole) (arg11 : Memref sig .tc .vmem S1x256x4096 .bf16) (harg11 : arg11.IsWhole) (arg12 : Memref sig .tc .vmem S8x4096 .f32) (harg12 : arg12.IsWhole) (arg13 : Memref sig .tc .vmem S8x8192 .f32) (harg13 : arg13.IsWhole) (hc0 : cond_0 i)
    (x0 : Vec F S1x256x8192 .bf16) (x1 : Vec F S1x256x64 .f32) (x2 : Vec F S32x264x256 .f32) (x3 : Vec F S32x4096 .f32) (x4 : Vec F S4096x32 .f32) (x5 : Vec F S256x4096 .f32) (x6 : Vec F S1x4096 .f32) (x7 : Vec F S4x8192 .f32) (x8 : Vec F S1x4096 .f32) (y : S8x4096.Idx) :
    ∃ pc ∈ (kernelRun_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1, y ∈ pc.1.set :=
  View.cover_of_wholeMem (kernelRun_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1 (by sl_whole_mem) y

def sout_A_0 (c : Dev nD) (i : grid2.Coords) (arg2 : Memref sig .tc .vmem S1x256x8192 .bf16) (harg2 : arg2.IsWhole) (arg3 : Memref sig .tc .vmem S1x256x64 .f32) (harg3 : arg3.IsWhole) (arg4 : Memref sig .tc .vmem S32x264x256 .f32) (harg4 : arg4.IsWhole) (arg5 : Memref sig .tc .vmem S32x4096 .f32) (harg5 : arg5.IsWhole) (arg6 : Memref sig .tc .vmem S4096x32 .f32) (harg6 : arg6.IsWhole) (arg7 : Memref sig .tc .vmem S256x4096 .f32) (harg7 : arg7.IsWhole) (arg8 : Memref sig .tc .vmem S1x4096 .f32) (harg8 : arg8.IsWhole) (arg9 : Memref sig .tc .vmem S4x8192 .f32) (harg9 : arg9.IsWhole) (arg10 : Memref sig .tc .vmem S1x4096 .f32) (harg10 : arg10.IsWhole) (arg11 : Memref sig .tc .vmem S1x256x4096 .bf16) (harg11 : arg11.IsWhole) (arg12 : Memref sig .tc .vmem S8x4096 .f32) (harg12 : arg12.IsWhole) (arg13 : Memref sig .tc .vmem S8x8192 .f32) (harg13 : arg13.IsWhole) (hc0 : cond_0 i)
    (x0 : Vec F S1x256x8192 .bf16) (x1 : Vec F S1x256x64 .f32) (x2 : Vec F S32x264x256 .f32) (x3 : Vec F S32x4096 .f32) (x4 : Vec F S4096x32 .f32) (x5 : Vec F S256x4096 .f32) (x6 : Vec F S1x4096 .f32) (x7 : Vec F S4x8192 .f32) (x8 : Vec F S1x4096 .f32) : Vec F S8x4096 .f32 :=
  VS_0.read (Elt F) (VS_0.writes (Elt F) VS_0.junk (kernelRun_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1)

/-- At a batch's first point the tail scratch is written whole. -/
theorem scover_A_1 (c : Dev nD) (i : grid2.Coords) (arg2 : Memref sig .tc .vmem S1x256x8192 .bf16) (harg2 : arg2.IsWhole) (arg3 : Memref sig .tc .vmem S1x256x64 .f32) (harg3 : arg3.IsWhole) (arg4 : Memref sig .tc .vmem S32x264x256 .f32) (harg4 : arg4.IsWhole) (arg5 : Memref sig .tc .vmem S32x4096 .f32) (harg5 : arg5.IsWhole) (arg6 : Memref sig .tc .vmem S4096x32 .f32) (harg6 : arg6.IsWhole) (arg7 : Memref sig .tc .vmem S256x4096 .f32) (harg7 : arg7.IsWhole) (arg8 : Memref sig .tc .vmem S1x4096 .f32) (harg8 : arg8.IsWhole) (arg9 : Memref sig .tc .vmem S4x8192 .f32) (harg9 : arg9.IsWhole) (arg10 : Memref sig .tc .vmem S1x4096 .f32) (harg10 : arg10.IsWhole) (arg11 : Memref sig .tc .vmem S1x256x4096 .bf16) (harg11 : arg11.IsWhole) (arg12 : Memref sig .tc .vmem S8x4096 .f32) (harg12 : arg12.IsWhole) (arg13 : Memref sig .tc .vmem S8x8192 .f32) (harg13 : arg13.IsWhole) (hc0 : cond_0 i)
    (x0 : Vec F S1x256x8192 .bf16) (x1 : Vec F S1x256x64 .f32) (x2 : Vec F S32x264x256 .f32) (x3 : Vec F S32x4096 .f32) (x4 : Vec F S4096x32 .f32) (x5 : Vec F S256x4096 .f32) (x6 : Vec F S1x4096 .f32) (x7 : Vec F S4x8192 .f32) (x8 : Vec F S1x4096 .f32) (y : S8x8192.Idx) :
    ∃ pc ∈ (kernelRun_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1, y ∈ pc.1.set :=
  View.cover_of_wholeMem (kernelRun_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1 (by sl_whole_mem) y

def sout_A_1 (c : Dev nD) (i : grid2.Coords) (arg2 : Memref sig .tc .vmem S1x256x8192 .bf16) (harg2 : arg2.IsWhole) (arg3 : Memref sig .tc .vmem S1x256x64 .f32) (harg3 : arg3.IsWhole) (arg4 : Memref sig .tc .vmem S32x264x256 .f32) (harg4 : arg4.IsWhole) (arg5 : Memref sig .tc .vmem S32x4096 .f32) (harg5 : arg5.IsWhole) (arg6 : Memref sig .tc .vmem S4096x32 .f32) (harg6 : arg6.IsWhole) (arg7 : Memref sig .tc .vmem S256x4096 .f32) (harg7 : arg7.IsWhole) (arg8 : Memref sig .tc .vmem S1x4096 .f32) (harg8 : arg8.IsWhole) (arg9 : Memref sig .tc .vmem S4x8192 .f32) (harg9 : arg9.IsWhole) (arg10 : Memref sig .tc .vmem S1x4096 .f32) (harg10 : arg10.IsWhole) (arg11 : Memref sig .tc .vmem S1x256x4096 .bf16) (harg11 : arg11.IsWhole) (arg12 : Memref sig .tc .vmem S8x4096 .f32) (harg12 : arg12.IsWhole) (arg13 : Memref sig .tc .vmem S8x8192 .f32) (harg13 : arg13.IsWhole) (hc0 : cond_0 i)
    (x0 : Vec F S1x256x8192 .bf16) (x1 : Vec F S1x256x64 .f32) (x2 : Vec F S32x264x256 .f32) (x3 : Vec F S32x4096 .f32) (x4 : Vec F S4096x32 .f32) (x5 : Vec F S256x4096 .f32) (x6 : Vec F S1x4096 .f32) (x7 : Vec F S4x8192 .f32) (x8 : Vec F S1x4096 .f32) : Vec F S8x8192 .f32 :=
  VS_1.read (Elt F) (VS_1.writes (Elt F) VS_1.junk (kernelRun_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1)

/-- At every other point the output block is written whole. -/
theorem cover_B_9 (c : Dev nD) (i : grid2.Coords) (arg2 : Memref sig .tc .vmem S1x256x8192 .bf16) (harg2 : arg2.IsWhole) (arg3 : Memref sig .tc .vmem S1x256x64 .f32) (harg3 : arg3.IsWhole) (arg4 : Memref sig .tc .vmem S32x264x256 .f32) (harg4 : arg4.IsWhole) (arg5 : Memref sig .tc .vmem S32x4096 .f32) (harg5 : arg5.IsWhole) (arg6 : Memref sig .tc .vmem S4096x32 .f32) (harg6 : arg6.IsWhole) (arg7 : Memref sig .tc .vmem S256x4096 .f32) (harg7 : arg7.IsWhole) (arg8 : Memref sig .tc .vmem S1x4096 .f32) (harg8 : arg8.IsWhole) (arg9 : Memref sig .tc .vmem S4x8192 .f32) (harg9 : arg9.IsWhole) (arg10 : Memref sig .tc .vmem S1x4096 .f32) (harg10 : arg10.IsWhole) (arg11 : Memref sig .tc .vmem S1x256x4096 .bf16) (harg11 : arg11.IsWhole) (arg12 : Memref sig .tc .vmem S8x4096 .f32) (harg12 : arg12.IsWhole) (arg13 : Memref sig .tc .vmem S8x8192 .f32) (harg13 : arg13.IsWhole) (hc0 : ¬cond_0 i)
    (x0 : Vec F S1x256x8192 .bf16) (x1 : Vec F S1x256x64 .f32) (x2 : Vec F S32x264x256 .f32) (x3 : Vec F S32x4096 .f32) (x4 : Vec F S4096x32 .f32) (x5 : Vec F S256x4096 .f32) (x6 : Vec F S1x4096 .f32) (x7 : Vec F S4x8192 .f32) (x8 : Vec F S1x4096 .f32) (xs0 : Vec F S8x4096 .f32) (xs1 : Vec F S8x8192 .f32) (y : S1x256x4096.Idx) :
    ∃ pc ∈ (kernelRun_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1).1, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1).1 S1x256x4096.size (by sl_kernel_rfl) y

def out_B_9 (c : Dev nD) (i : grid2.Coords) (arg2 : Memref sig .tc .vmem S1x256x8192 .bf16) (harg2 : arg2.IsWhole) (arg3 : Memref sig .tc .vmem S1x256x64 .f32) (harg3 : arg3.IsWhole) (arg4 : Memref sig .tc .vmem S32x264x256 .f32) (harg4 : arg4.IsWhole) (arg5 : Memref sig .tc .vmem S32x4096 .f32) (harg5 : arg5.IsWhole) (arg6 : Memref sig .tc .vmem S4096x32 .f32) (harg6 : arg6.IsWhole) (arg7 : Memref sig .tc .vmem S256x4096 .f32) (harg7 : arg7.IsWhole) (arg8 : Memref sig .tc .vmem S1x4096 .f32) (harg8 : arg8.IsWhole) (arg9 : Memref sig .tc .vmem S4x8192 .f32) (harg9 : arg9.IsWhole) (arg10 : Memref sig .tc .vmem S1x4096 .f32) (harg10 : arg10.IsWhole) (arg11 : Memref sig .tc .vmem S1x256x4096 .bf16) (harg11 : arg11.IsWhole) (arg12 : Memref sig .tc .vmem S8x4096 .f32) (harg12 : arg12.IsWhole) (arg13 : Memref sig .tc .vmem S8x8192 .f32) (harg13 : arg13.IsWhole) (hc0 : ¬cond_0 i)
    (x0 : Vec F S1x256x8192 .bf16) (x1 : Vec F S1x256x64 .f32) (x2 : Vec F S32x264x256 .f32) (x3 : Vec F S32x4096 .f32) (x4 : Vec F S4096x32 .f32) (x5 : Vec F S256x4096 .f32) (x6 : Vec F S1x4096 .f32) (x7 : Vec F S4x8192 .f32) (x8 : Vec F S1x4096 .f32) (xs0 : Vec F S8x4096 .f32) (xs1 : Vec F S8x8192 .f32) : Vec F S1x256x4096 .bf16 :=
  VO_9.read (Elt F) (VO_9.writes (Elt F) VO_9.junk (kernelRun_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1).1)

def sout_B_0 (c : Dev nD) (i : grid2.Coords) (arg2 : Memref sig .tc .vmem S1x256x8192 .bf16) (harg2 : arg2.IsWhole) (arg3 : Memref sig .tc .vmem S1x256x64 .f32) (harg3 : arg3.IsWhole) (arg4 : Memref sig .tc .vmem S32x264x256 .f32) (harg4 : arg4.IsWhole) (arg5 : Memref sig .tc .vmem S32x4096 .f32) (harg5 : arg5.IsWhole) (arg6 : Memref sig .tc .vmem S4096x32 .f32) (harg6 : arg6.IsWhole) (arg7 : Memref sig .tc .vmem S256x4096 .f32) (harg7 : arg7.IsWhole) (arg8 : Memref sig .tc .vmem S1x4096 .f32) (harg8 : arg8.IsWhole) (arg9 : Memref sig .tc .vmem S4x8192 .f32) (harg9 : arg9.IsWhole) (arg10 : Memref sig .tc .vmem S1x4096 .f32) (harg10 : arg10.IsWhole) (arg11 : Memref sig .tc .vmem S1x256x4096 .bf16) (harg11 : arg11.IsWhole) (arg12 : Memref sig .tc .vmem S8x4096 .f32) (harg12 : arg12.IsWhole) (arg13 : Memref sig .tc .vmem S8x8192 .f32) (harg13 : arg13.IsWhole) (hc0 : ¬cond_0 i)
    (x0 : Vec F S1x256x8192 .bf16) (x1 : Vec F S1x256x64 .f32) (x2 : Vec F S32x264x256 .f32) (x3 : Vec F S32x4096 .f32) (x4 : Vec F S4096x32 .f32) (x5 : Vec F S256x4096 .f32) (x6 : Vec F S1x4096 .f32) (x7 : Vec F S4x8192 .f32) (x8 : Vec F S1x4096 .f32) (xs0 : Vec F S8x4096 .f32) (xs1 : Vec F S8x8192 .f32) : Vec F S8x4096 .f32 :=
  arg12.view.read (Elt F) (arg12.view.writes (Elt F) (harg12.unread xs0) (kernelRun_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1).2.1)

def sout_B_1 (c : Dev nD) (i : grid2.Coords) (arg2 : Memref sig .tc .vmem S1x256x8192 .bf16) (harg2 : arg2.IsWhole) (arg3 : Memref sig .tc .vmem S1x256x64 .f32) (harg3 : arg3.IsWhole) (arg4 : Memref sig .tc .vmem S32x264x256 .f32) (harg4 : arg4.IsWhole) (arg5 : Memref sig .tc .vmem S32x4096 .f32) (harg5 : arg5.IsWhole) (arg6 : Memref sig .tc .vmem S4096x32 .f32) (harg6 : arg6.IsWhole) (arg7 : Memref sig .tc .vmem S256x4096 .f32) (harg7 : arg7.IsWhole) (arg8 : Memref sig .tc .vmem S1x4096 .f32) (harg8 : arg8.IsWhole) (arg9 : Memref sig .tc .vmem S4x8192 .f32) (harg9 : arg9.IsWhole) (arg10 : Memref sig .tc .vmem S1x4096 .f32) (harg10 : arg10.IsWhole) (arg11 : Memref sig .tc .vmem S1x256x4096 .bf16) (harg11 : arg11.IsWhole) (arg12 : Memref sig .tc .vmem S8x4096 .f32) (harg12 : arg12.IsWhole) (arg13 : Memref sig .tc .vmem S8x8192 .f32) (harg13 : arg13.IsWhole) (hc0 : ¬cond_0 i)
    (x0 : Vec F S1x256x8192 .bf16) (x1 : Vec F S1x256x64 .f32) (x2 : Vec F S32x264x256 .f32) (x3 : Vec F S32x4096 .f32) (x4 : Vec F S4096x32 .f32) (x5 : Vec F S256x4096 .f32) (x6 : Vec F S1x4096 .f32) (x7 : Vec F S4x8192 .f32) (x8 : Vec F S1x4096 .f32) (xs0 : Vec F S8x4096 .f32) (xs1 : Vec F S8x8192 .f32) : Vec F S8x8192 .f32 :=
  arg13.view.read (Elt F) (arg13.view.writes (Elt F) (harg13.unread xs1) (kernelRun_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1).2.2.1)

/-! ## What the outputs hold after each point -/

def outsAt (c : Dev nD) : (n : ℕ) → n < cfg2.N → Vec F S1x256x4096 .bf16 × Vec F S8x4096 .f32 × Vec F S8x8192 .f32
  | 0, hn => (out_A_9 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) scM_0 (Memref.isWhole_whole _) scM_1 (Memref.isWhole_whole _) ((hcond_0 ⟨0, hn⟩).mpr (Nat.zero_mod _)) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩) (iblk W c 6 ⟨0, hn⟩) (iblk W c 7 ⟨0, hn⟩) (iblk W c 8 ⟨0, hn⟩), sout_A_0 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) scM_0 (Memref.isWhole_whole _) scM_1 (Memref.isWhole_whole _) ((hcond_0 ⟨0, hn⟩).mpr (Nat.zero_mod _)) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩) (iblk W c 6 ⟨0, hn⟩) (iblk W c 7 ⟨0, hn⟩) (iblk W c 8 ⟨0, hn⟩), sout_A_1 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) scM_0 (Memref.isWhole_whole _) scM_1 (Memref.isWhole_whole _) ((hcond_0 ⟨0, hn⟩).mpr (Nat.zero_mod _)) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩) (iblk W c 6 ⟨0, hn⟩) (iblk W c 7 ⟨0, hn⟩) (iblk W c 8 ⟨0, hn⟩))
  | n + 1, hn =>
    if h0 : (n + 1) % 16 = 0 then
      (out_A_9 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) scM_0 (Memref.isWhole_whole _) scM_1 (Memref.isWhole_whole _) ((hcond_0 ⟨n + 1, hn⟩).mpr h0) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (iblk W c 6 ⟨n + 1, hn⟩) (iblk W c 7 ⟨n + 1, hn⟩) (iblk W c 8 ⟨n + 1, hn⟩), sout_A_0 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) scM_0 (Memref.isWhole_whole _) scM_1 (Memref.isWhole_whole _) ((hcond_0 ⟨n + 1, hn⟩).mpr h0) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (iblk W c 6 ⟨n + 1, hn⟩) (iblk W c 7 ⟨n + 1, hn⟩) (iblk W c 8 ⟨n + 1, hn⟩), sout_A_1 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) scM_0 (Memref.isWhole_whole _) scM_1 (Memref.isWhole_whole _) ((hcond_0 ⟨n + 1, hn⟩).mpr h0) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (iblk W c 6 ⟨n + 1, hn⟩) (iblk W c 7 ⟨n + 1, hn⟩) (iblk W c 8 ⟨n + 1, hn⟩))
    else
      (out_B_9 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) scM_0 (Memref.isWhole_whole _) scM_1 (Memref.isWhole_whole _) (fun h => h0 ((hcond_0 ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (iblk W c 6 ⟨n + 1, hn⟩) (iblk W c 7 ⟨n + 1, hn⟩) (iblk W c 8 ⟨n + 1, hn⟩) (outsAt c n (Nat.lt_of_succ_lt hn)).2.1 (outsAt c n (Nat.lt_of_succ_lt hn)).2.2, sout_B_0 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) scM_0 (Memref.isWhole_whole _) scM_1 (Memref.isWhole_whole _) (fun h => h0 ((hcond_0 ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (iblk W c 6 ⟨n + 1, hn⟩) (iblk W c 7 ⟨n + 1, hn⟩) (iblk W c 8 ⟨n + 1, hn⟩) (outsAt c n (Nat.lt_of_succ_lt hn)).2.1 (outsAt c n (Nat.lt_of_succ_lt hn)).2.2, sout_B_1 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) scM_0 (Memref.isWhole_whole _) scM_1 (Memref.isWhole_whole _) (fun h => h0 ((hcond_0 ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (iblk W c 6 ⟨n + 1, hn⟩) (iblk W c 7 ⟨n + 1, hn⟩) (iblk W c 8 ⟨n + 1, hn⟩) (outsAt c n (Nat.lt_of_succ_lt hn)).2.1 (outsAt c n (Nat.lt_of_succ_lt hn)).2.2)

/-- What a batch's first point leaves. -/
theorem outsAt_A (c : Dev nD) (t : Fin cfg2.N) (h0 : t.val % 16 = 0) :
    outsAt W c t.val t.isLt = (out_A_9 c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) ((hcond_0 t).mpr h0) (iblk W c 0 t) (iblk W c 1 t) (iblk W c 2 t) (iblk W c 3 t) (iblk W c 4 t) (iblk W c 5 t) (iblk W c 6 t) (iblk W c 7 t) (iblk W c 8 t), sout_A_0 c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) ((hcond_0 t).mpr h0) (iblk W c 0 t) (iblk W c 1 t) (iblk W c 2 t) (iblk W c 3 t) (iblk W c 4 t) (iblk W c 5 t) (iblk W c 6 t) (iblk W c 7 t) (iblk W c 8 t), sout_A_1 c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) ((hcond_0 t).mpr h0) (iblk W c 0 t) (iblk W c 1 t) (iblk W c 2 t) (iblk W c 3 t) (iblk W c 4 t) (iblk W c 5 t) (iblk W c 6 t) (iblk W c 7 t) (iblk W c 8 t)) := by
  obtain ⟨n, hn⟩ := t
  cases n with
  | zero => exact rfl
  | succ n => exact (dif_pos h0).trans rfl

/-- What every other point leaves, from what the point before left. -/
theorem outsAt_B (c : Dev nD) (t : Fin cfg2.N) (h0 : ¬t.val % 16 = 0) :
    outsAt W c t.val t.isLt = (out_B_9 c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) (fun h => h0 ((hcond_0 t).mp h)) (iblk W c 0 t) (iblk W c 1 t) (iblk W c 2 t) (iblk W c 3 t) (iblk W c 4 t) (iblk W c 5 t) (iblk W c 6 t) (iblk W c 7 t) (iblk W c 8 t) (outsAt W c (t.val - 1) (Nat.lt_of_le_of_lt (Nat.sub_le _ _) t.isLt)).2.1 (outsAt W c (t.val - 1) (Nat.lt_of_le_of_lt (Nat.sub_le _ _) t.isLt)).2.2, sout_B_0 c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) (fun h => h0 ((hcond_0 t).mp h)) (iblk W c 0 t) (iblk W c 1 t) (iblk W c 2 t) (iblk W c 3 t) (iblk W c 4 t) (iblk W c 5 t) (iblk W c 6 t) (iblk W c 7 t) (iblk W c 8 t) (outsAt W c (t.val - 1) (Nat.lt_of_le_of_lt (Nat.sub_le _ _) t.isLt)).2.1 (outsAt W c (t.val - 1) (Nat.lt_of_le_of_lt (Nat.sub_le _ _) t.isLt)).2.2, sout_B_1 c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) (fun h => h0 ((hcond_0 t).mp h)) (iblk W c 0 t) (iblk W c 1 t) (iblk W c 2 t) (iblk W c 3 t) (iblk W c 4 t) (iblk W c 5 t) (iblk W c 6 t) (iblk W c 7 t) (iblk W c 8 t) (outsAt W c (t.val - 1) (Nat.lt_of_le_of_lt (Nat.sub_le _ _) t.isLt)).2.1 (outsAt W c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg2.N → sProp 𝕄
  | 0, _ => Pipeline.ΦA spec2 c
  | n + 1, hn => iprop(iprop(owns (c : Thread nD τ) scM_0 fullShare ((outsAt W c n hn).2.1) ∗ owns (c : Thread nD τ) scM_1 fullShare ((outsAt W c n hn).2.2)) ∗ others c)

/-- Before the first point the scratch is as the call finds it. -/
theorem PhiS_zero (c : Dev nD) (n : ℕ) (h : n ≤ cfg2.N) (hz : n = 0) : PhiS W c n h = Pipeline.ΦA spec2 c := by
  subst hz; rfl

/-- After a point the scratch holds what it left. -/
theorem PhiS_succ (c : Dev nD) (n : ℕ) (hn : n < cfg2.N) :
    PhiS W c (n + 1) hn = iprop(iprop(owns (c : Thread nD τ) scM_0 fullShare ((outsAt W c n hn).2.1) ∗ owns (c : Thread nD τ) scM_1 fullShare ((outsAt W c n hn).2.2)) ∗ others c) := rfl

/-- Before every later point the scratch holds what the one before left. -/
theorem PhiS_pos (c : Dev nD) (n : ℕ) (h : n ≤ cfg2.N) (hz : n ≠ 0) :
    PhiS W c n h = iprop(iprop(owns (c : Thread nD τ) scM_0 fullShare ((outsAt W c (n - 1) (by omega)).2.1) ∗ owns (c : Thread nD τ) scM_1 fullShare ((outsAt W c (n - 1) (by omega)).2.2)) ∗ others c) := by
  cases n with
  | zero => exact absurd rfl hz
  | succ n => rfl

/-! ## The pipeline's proof data -/

def dat (c : Dev nD) : Dat τ (Elt F) Unit ℕ (UR sig nD τ) ℕ cfg2 c where
  A w := W c (Proc.devRef .tc (Pipeline.arrRef spec2 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => iblk W c 7 t
    | ⟨8, _⟩ => iblk W c 8 t
    | ⟨9, _⟩ => (outsAt W c t.val t.isLt).1
  Φ t := PhiS W c t.val (Nat.le_of_lt_succ t.isLt)
  q _ := fullShare
  owed _ := 0

/-- The arrays the call is entered with. -/
theorem A_eq (c : Dev nD) (w : Fin cfg2.W) : (dat W c).A w = W c (Proc.devRef .tc (Pipeline.arrRef spec2 w)) := by
  dsimp only [dat]

/-- The scratch at a point's start. -/
theorem PhiS_castSucc (c : Dev nD) (t : Fin cfg2.N) :
    (dat W c).Φ t.castSucc = PhiS W c t.val (Nat.le_of_lt t.isLt) := by
  dsimp only [dat]; exact Pipeline.Dat.Φ_castSucc (PhiS W c) t

/-- What the window holds after the body. -/
theorem after_0 (c : Dev nD) (t : Fin cfg2.N) : (dat W c).after 0 t = iblk W c 0 t := by dsimp only [dat]
/-- What the window holds after the body. -/
theorem after_1 (c : Dev nD) (t : Fin cfg2.N) : (dat W c).after 1 t = iblk W c 1 t := by dsimp only [dat]
/-- What the window holds after the body. -/
theorem after_2 (c : Dev nD) (t : Fin cfg2.N) : (dat W c).after 2 t = iblk W c 2 t := by dsimp only [dat]
/-- What the window holds after the body. -/
theorem after_3 (c : Dev nD) (t : Fin cfg2.N) : (dat W c).after 3 t = iblk W c 3 t := by dsimp only [dat]
/-- What the window holds after the body. -/
theorem after_4 (c : Dev nD) (t : Fin cfg2.N) : (dat W c).after 4 t = iblk W c 4 t := by dsimp only [dat]
/-- What the window holds after the body. -/
theorem after_5 (c : Dev nD) (t : Fin cfg2.N) : (dat W c).after 5 t = iblk W c 5 t := by dsimp only [dat]
/-- What the window holds after the body. -/
theorem after_6 (c : Dev nD) (t : Fin cfg2.N) : (dat W c).after 6 t = iblk W c 6 t := by dsimp only [dat]
/-- What the window holds after the body. -/
theorem after_7 (c : Dev nD) (t : Fin cfg2.N) : (dat W c).after 7 t = iblk W c 7 t := by dsimp only [dat]
/-- What the window holds after the body. -/
theorem after_8 (c : Dev nD) (t : Fin cfg2.N) : (dat W c).after 8 t = iblk W c 8 t := by dsimp only [dat]
/-- What the window holds after the body. -/
theorem after_9 (c : Dev nD) (t : Fin cfg2.N) : (dat W c).after 9 t = (outsAt W c t.val t.isLt).1 := by dsimp only [dat]

/-- Before the body an input's window holds the array's block. -/
theorem before_0 (c : Dev nD) (t : Fin cfg2.N) (d) : (dat W c).before 0 t d = iblk W c 0 t :=
  before_0_of W (dat W c) (A_eq W c 0) (after_0 W c) t d
/-- Before the body an input's window holds the array's block. -/
theorem before_1 (c : Dev nD) (t : Fin cfg2.N) (d) : (dat W c).before 1 t d = iblk W c 1 t :=
  before_1_of W (dat W c) (A_eq W c 1) (after_1 W c) t d
/-- Before the body an input's window holds the array's block. -/
theorem before_2 (c : Dev nD) (t : Fin cfg2.N) (d) : (dat W c).before 2 t d = iblk W c 2 t :=
  before_2_of W (dat W c) (A_eq W c 2) (after_2 W c) t d
/-- Before the body an input's window holds the array's block. -/
theorem before_3 (c : Dev nD) (t : Fin cfg2.N) (d) : (dat W c).before 3 t d = iblk W c 3 t :=
  before_3_of W (dat W c) (A_eq W c 3) (after_3 W c) t d
/-- Before the body an input's window holds the array's block. -/
theorem before_4 (c : Dev nD) (t : Fin cfg2.N) (d) : (dat W c).before 4 t d = iblk W c 4 t :=
  before_4_of W (dat W c) (A_eq W c 4) (after_4 W c) t d
/-- Before the body an input's window holds the array's block. -/
theorem before_5 (c : Dev nD) (t : Fin cfg2.N) (d) : (dat W c).before 5 t d = iblk W c 5 t :=
  before_5_of W (dat W c) (A_eq W c 5) (after_5 W c) t d
/-- Before the body an input's window holds the array's block. -/
theorem before_6 (c : Dev nD) (t : Fin cfg2.N) (d) : (dat W c).before 6 t d = iblk W c 6 t :=
  before_6_of W (dat W c) (A_eq W c 6) (after_6 W c) t d
/-- Before the body an input's window holds the array's block. -/
theorem before_7 (c : Dev nD) (t : Fin cfg2.N) (d) : (dat W c).before 7 t d = iblk W c 7 t :=
  before_7_of W (dat W c) (A_eq W c 7) (after_7 W c) t d
/-- Before the body an input's window holds the array's block. -/
theorem before_8 (c : Dev nD) (t : Fin cfg2.N) (d) : (dat W c).before 8 t d = iblk W c 8 t :=
  before_8_of W (dat W c) (A_eq W c 8) (after_8 W c) t d

/-! ## The body obligation, at a generic point -/

def bodyPre (c : Dev nD) (t : Fin cfg2.N) : sProp 𝕄 :=
  iprop((dat W c).Φ t.castSucc ∗ (dat W c).owesAt () t.castSucc
    ∗ (∃ d, owns (c : Thread nD τ) (ms_0 t) fullShare ((dat W c).before 0 t d))
    ∗ (∃ d, owns (c : Thread nD τ) (ms_1 t) fullShare ((dat W c).before 1 t d))
    ∗ (∃ d, owns (c : Thread nD τ) (ms_2 t) fullShare ((dat W c).before 2 t d))
    ∗ (∃ d, owns (c : Thread nD τ) (ms_3 t) fullShare ((dat W c).before 3 t d))
    ∗ (∃ d, owns (c : Thread nD τ) (ms_4 t) fullShare ((dat W c).before 4 t d))
    ∗ (∃ d, owns (c : Thread nD τ) (ms_5 t) fullShare ((dat W c).before 5 t d))
    ∗ (∃ d, owns (c : Thread nD τ) (ms_6 t) fullShare ((dat W c).before 6 t d))
    ∗ (∃ d, owns (c : Thread nD τ) (ms_7 t) fullShare ((dat W c).before 7 t d))
    ∗ (∃ d, owns (c : Thread nD τ) (ms_8 t) fullShare ((dat W c).before 8 t d))
    ∗ (∃ d, owns (c : Thread nD τ) (ms_9 t) fullShare ((dat W c).before 9 t d)))

def bodyPost (c : Dev nD) (t : Fin cfg2.N) : sProp 𝕄 :=
  iprop((dat W c).Φ t.succ ∗ (dat W c).owesAt () t.succ
    ∗ owns (c : Thread nD τ) (ms_0 t) fullShare ((dat W c).after 0 t)
    ∗ owns (c : Thread nD τ) (ms_1 t) fullShare ((dat W c).after 1 t)
    ∗ owns (c : Thread nD τ) (ms_2 t) fullShare ((dat W c).after 2 t)
    ∗ owns (c : Thread nD τ) (ms_3 t) fullShare ((dat W c).after 3 t)
    ∗ owns (c : Thread nD τ) (ms_4 t) fullShare ((dat W c).after 4 t)
    ∗ owns (c : Thread nD τ) (ms_5 t) fullShare ((dat W c).after 5 t)
    ∗ owns (c : Thread nD τ) (ms_6 t) fullShare ((dat W c).after 6 t)
    ∗ owns (c : Thread nD τ) (ms_7 t) fullShare ((dat W c).after 7 t)
    ∗ owns (c : Thread nD τ) (ms_8 t) fullShare ((dat W c).after 8 t)
    ∗ owns (c : Thread nD τ) (ms_9 t) fullShare ((dat W c).after 9 t))

set_option maxHeartbeats 9600000 in
/-- The body at a point, from what it is given to what it leaves. -/
theorem sound_body (c : Dev nD) (t : Fin cfg2.N) :
    bodyPre W c t ⊢ wp frame (wpE (defs₀ (F := F)) Variants.none c none) Set.univ (bodyAt2 t) (fun _ => bodyPost W c t) := by
  unfold bodyPre bodyPost bodyAt2
  simp only [before_0, before_1, before_2, before_3, before_4, before_5, before_6, before_7, before_8]
  rw [show (dat W c).owesAt () t.succ = (dat W c).owesAt () t.castSucc from rfl,
    after_0, after_1, after_2, after_3, after_4, after_5, after_6, after_7, after_8, after_9]
  rw [show (dat W c).Φ t.succ = PhiS W c (t.val + 1) t.isLt from rfl, PhiS_succ]
  have hN : t.val < 32 := lt_of_lt_of_eq t.isLt (show cfg2.N = 32 from N_2)
  by_cases h0 : t.val % 16 = 0
  · by_cases hz : t.val = 0
    · rw [PhiS_castSucc W c t, PhiS_zero W c _ _ hz, PhiA_eq]
      rw [outsAt_A W c t h0]
      unfold out_A_9 sout_A_0 sout_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun_A c (grid2.coords t) _ _ _ _ _ _ _ _ _ _ _ _ _ _ _ _ _ _ _ _ _ _ _ _ ((hcond_0 t).mpr h0) (iblk W c 0 t) (iblk W c 1 t) (iblk W c 2 t) (iblk W c 3 t) (iblk W c 4 t) (iblk W c 5 t) (iblk W c 6 t) (iblk W c 7 t) (iblk W c 8 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, ⟨%e9, H9⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover_A_0 c _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover_A_1 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover_A_9 c _ _ _ _ _ _ _ _ _ _ _ _ _ _ _ _ _ _ _ _ _ _ _ _ _ _ _ _ _ _ _ _ _ _ _)
    · rw [PhiS_castSucc W c t, PhiS_pos W c _ _ hz]
      rw [outsAt_A W c t h0]
      unfold out_A_9 sout_A_0 sout_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun_A c (grid2.coords t) _ _ _ _ _ _ _ _ _ _ _ _ _ _ _ _ _ _ _ _ _ _ _ _ ((hcond_0 t).mpr h0) (iblk W c 0 t) (iblk W c 1 t) (iblk W c 2 t) (iblk W c 3 t) (iblk W c 4 t) (iblk W c 5 t) (iblk W c 6 t) (iblk W c 7 t) (iblk W c 8 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexists _; iexact HS0
      isplitl [HS1]; · iexists _; iexact HS1
      iintro ⟨H0, H1, H2, H3, H4, H5, H6, H7, H8, ⟨%e9, H9⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover_A_0 c _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover_A_1 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover_A_9 c _ _ _ _ _ _ _ _ _ _ _ _ _ _ _ _ _ _ _ _ _ _ _ _ _ _ _ _ _ _ _ _ _ _ _)
  · by_cases hz : t.val = 0
    · exfalso; have hN : t.val < 32 := lt_of_lt_of_eq t.isLt (show cfg2.N = 32 from N_2); omega
    · rw [PhiS_castSucc W c t, PhiS_pos W c _ _ hz]
      rw [outsAt_B W c t h0]
      unfold out_B_9 sout_B_0 sout_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun_B c (grid2.coords t) _ _ _ _ _ _ _ _ _ _ _ _ _ _ _ _ _ _ _ _ _ _ _ _ (fun h => h0 ((hcond_0 t).mp h)) (iblk W c 0 t) (iblk W c 1 t) (iblk W c 2 t) (iblk W c 3 t) (iblk W c 4 t) (iblk W c 5 t) (iblk W c 6 t) (iblk W c 7 t) (iblk W c 8 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, ⟨%e9, H9⟩, HS0, HS1⟩
      isplitl [HS0 HS1 Hg]
      · isplitl [HS0 HS1]
        · isplitl [HS0]
          · unfold owns; iexists _; isplitr
            swap; · iexact HS0
            ipureintro; rfl
          unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover_B_9 c _ _ _ _ _ _ _ _ _ _ _ _ _ _ _ _ _ _ _ _ _ _ _ _ _ _ _ _ _ _ _ _ _ _ _ _ _)

/-- The call's body among the program's definitions. -/
theorem defs₀_row (t : Fin cfg2.N) :
    defs₀ (F := F) .tc cfg2.body (cfg2.bodyArgs t (cfg2.slots t)) = bodyAt2 t := by
  unfold defs₀; rw [Defs.onTc_tc]

/-- The body meets the call's obligation at every point. -/
theorem body_obligation (c : Dev nD) : BodyObligation (dat (F := F) W c) (defs₀ (F := F)) Variants.none () Set.univ := fun t => by
  rw [bigSep_W2, bigSep_W2, defs₀_row]
  exact triple_restated (sound_body W c t) rfl .rfl fun _ => .rfl

/-- The call's scratch is taken in. -/
theorem hin (c : Dev nD) : Pipeline.ΦA spec2 c ⊢ (dat W c).Φ 0 := by
  rw [show (dat W c).Φ 0 = PhiS W c 0 (Nat.zero_le _) from rfl, PhiS_zero W c 0 _ rfl]
  try exact Idealize.SL.BI.Entails.refl _

/-- The scratch after the last point can be given back. -/
theorem Phi_out (c : Dev nD) (t : Fin (cfg2.N + 1)) (ht : t.val ≠ 0) : (dat W c).Φ t ⊢ Pipeline.ΦA spec2 c := by
  rw [show (dat W c).Φ t = PhiS W c t.val (Nat.le_of_lt_succ t.isLt) from rfl, PhiS_pos W c _ _ ht, PhiA_eq]
  iintro ⟨⟨HS0, HS1⟩, Hg⟩
  isplitl [HS0 HS1]
  · isplitl [HS0]
    · iexists _; iexact HS0
    iexists _; iexact HS1
  iexact Hg

/-- The call's scratch is given back. -/
theorem hout (c : Dev nD) : (dat W c).Φ (Fin.last cfg2.N) ⊢ Pipeline.ΦA spec2 c :=
  Phi_out W c _ (by rw [Fin.val_last]; have : cfg2.N = 32 := N_2; omega)

end Cert.KernelIdeal.Scan

end
-- ==== Proof.Run.lean ====
module

public import proofs.«01_k».proof.Proof.Gen.KernelIdeal.Regions
public import proofs.«01_k».proof.Proof.Bc
public import proofs.«01_k».proof.Proof.Proj
public import proofs.«01_k».proof.Proof.Out
public import proofs.«01_k».proof.Proof.Scan
public import Idealize.ShloMosaic.Lib.Pipeline.RegionArraysS

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg HostSeg afterRegion)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between the items of @main -/

/-- The buffers when the first call is entered: the seven leading host stretches have run. -/
def X7 (c : Dev nD) : Valuation τ sig (Elt F) := Gen.V7 m c
/-- After the call computing the two narrow projections. -/
def X8 (c : Dev nD) : Valuation τ sig (Elt F) := afterRegion (Bc.dat (X7 m) c) (X7 m c)
/-- After the call computing the wide projection. -/
def X9 (c : Dev nD) : Valuation τ sig (Elt F) := afterRegion (Proj.dat (X8 m) c) (X8 m c)
/-- After the two reshapes that follow. -/
def X10 (c : Dev nD) : Valuation τ sig (Elt F) := StableHlo.after hostOps2 (X9 m c)
/-- After the scan. -/
def X11 (c : Dev nD) : Valuation τ sig (Elt F) := afterRegion (Scan.dat (X10 m) c) (X10 m c)
/-- After the reshape that follows. -/
def X12 (c : Dev nD) : Valuation τ sig (Elt F) := StableHlo.after hostOps3 (X11 m c)
/-- After the output projection. -/
def X13 (c : Dev nD) : Valuation τ sig (Elt F) := afterRegion (Out.dat (X12 m) c) (X12 m c)
/-- At the end. -/
def X14 (c : Dev nD) : Valuation τ sig (Elt F) := StableHlo.after hostOps4 (X13 m c)

/-- The four calls' proof data, each entered from the buffers the items before it leave. -/
def pdats : (p : Fin 4) → (c : Dev nD) → Dat τ (Elt F) Unit ℕ (UR sig nD τ) ℕ (cfgs p) c
  | ⟨0, _⟩, c => Bc.dat (X7 m) c
  | ⟨1, _⟩, c => Proj.dat (X8 m) c
  | ⟨2, _⟩, c => Scan.dat (X10 m) c
  | ⟨3, _⟩, c => Out.dat (X12 m) c

/-- The single level is assigned at every cell of a TensorCore. -/
def L (g : GSem nD τ sig) : Finset Unit := if g.1.2 = .tc then {()} else ∅
/-- All levels are zero. -/
def lv (_ : GSem nD τ sig) (_ : Unit) : ℕ := 0

/-- Only a TensorCore's cells carry a level. -/
theorem hL (g : GSem nD τ sig) (h : g.1.2 ≠ .tc) : L g = ∅ := if_neg h

/-- Every call's signals sit at the one level, which is zero. -/
theorem hcut (p : Fin 4) : Pipeline.LevelCut (nD := nD) (pcfgs (F := F)) adm () L lv p (fun _ => 0) (fun _ => 0) where
  hι c w s := by unfold L; rw [if_pos rfl]; exact Finset.mem_singleton_self _
  hιb c w s := le_refl _
  hD c g i h := absurd h (lt_irrefl _)

/-- What rides beside the buffers: nothing owed, and the generator register. -/
def rest (c : Dev nD) : sProp 𝕄 :=
  iprop((∃ Wd, owes (c : Thread nD τ) (0 : CellTallies nD τ sig Unit) Wd) ∗ (∃ r, prngReg c r) ∗ emp)

/-! ## The items as segments -/

/-- The first call's segment. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl
    (fun c => (Bc.body_obligation (X7 m) c).loose) (fun _ _ => rfl) (fun _ => rfl)
    (fun c => (Bc.dat (X7 m) c).share_full fun _ => rfl) (fun c => .rfl) (fun c => .rfl)
    (fun _ => 0) (hcut 0) (fun _ => iprop(emp)) (X7 m) (fun c w => rfl)

/-- The second call's segment. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) launch1.toP rfl
    (fun c => (Proj.body_obligation (X8 m) c).loose) (fun _ _ => rfl) (fun _ => rfl)
    (fun c => (Proj.dat (X8 m) c).share_full fun _ => rfl) (fun c => .rfl) (fun c => .rfl)
    (fun _ => 0) (hcut 1) (fun _ => iprop(emp)) (X8 m) (fun c w => rfl)

/-- The scan's segment. -/
def reg2 : RegionSeg (pcfgs (F := F)) adm (pdats m) () defs₀ Variants.none L lv 2 :=
  RegionSeg.ofHeldIn (pcfgs (F := F)) adm (pdats m) () defs₀ Variants.none L lv 2 (fun _ => 0) (Pipeline.ucRefs τ sig)
    (fun c => iprop(∃ r, prngReg c r)) (fun c => iprop(∃ r, prngReg c r)) launch2.toP rfl
    (fun c => (Scan.body_obligation (X10 m) c).loose) (fun _ _ => rfl) (fun _ => rfl)
    (fun c => (Scan.dat (X10 m) c).share_full fun _ => rfl) (fun c => Scan.hin (X10 m) c) (fun c => Scan.hout (X10 m) c)
    (fun _ => 0) (hcut 2) (fun _ => iprop(emp)) (X10 m) (fun c w => rfl)

/-- The output projection's segment. -/
def reg3 : RegionSeg (pcfgs (F := F)) adm (pdats m) () defs₀ Variants.none L lv 3 :=
  RegionSeg.ofHeldIn (pcfgs (F := F)) adm (pdats m) () defs₀ Variants.none L lv 3 (fun _ => 0) (Pipeline.ucRefs τ sig)
    (fun c => iprop(∃ r, prngReg c r)) (fun c => iprop(∃ r, prngReg c r)) launch3.toP rfl
    (fun c => (Out.body_obligation (X12 m) c).loose) (fun _ _ => rfl) (fun _ => rfl)
    (fun c => (Out.dat (X12 m) c).share_full fun _ => rfl) (fun c => .rfl) (fun c => .rfl)
    (fun _ => 0) (hcut 3) (fun _ => iprop(emp)) (X12 m) (fun c w => rfl)

/-- A host stretch between or after the calls. -/
def hostSeg (ops : List (HloOp τ sig (Elt F)))
    (hsub : ops.Forall fun op => op.bufs ⊆ StableHlo.tcRefs τ sig) (hfresh : ops.Forall fun op => op.fresh = ∅)
    (V : Dev nD → Valuation τ sig (Elt F)) : HostSeg (Ix := Unit) (Name := ℕ) (U := UR sig nD τ) (Lvl := ℕ) (pcfgs (F := F)) defs₀ Variants.none L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) V rest

/-- The items of @main, in order. -/
abbrev items (c : Dev nD) : List (Seg (pcfgs (F := F)) adm (pdats m) () defs₀ Variants.none L lv) :=
  [.host (seg0 m Variants.none L lv fun _ => rest), .host (seg1 m Variants.none L lv fun _ => rest),
    .host (seg2 m Variants.none L lv fun _ => rest), .host (seg3 m Variants.none L lv fun _ => rest),
    .host (seg4 m Variants.none L lv fun _ => rest), .host (seg5 m Variants.none L lv fun _ => rest),
    .host (seg6 m Variants.none L lv fun _ => rest), .region (reg0 m), .region (reg1 m),
    .host (hostSeg hostOps2 hostOps2_sub hostOps2_fresh (X9 m)), .region (reg2 m),
    .host (hostSeg hostOps3 hostOps3_sub hostOps3_fresh (X11 m)), .region (reg3 m),
    .host (hostSeg hostOps4 hostOps4_sub hostOps4_fresh (X13 m))]

/-- The call's arrays are among the program's unscoped buffers. -/
theorem arrs0 : Pipeline.arrRefs (τ := τ) (pcfgs (F := F) 0).spec ⊆ Pipeline.ucRefs τ sig := Pipeline.arrRefs_sub_ucRefs spec0 (by decide)
/-- The call's arrays are among the program's unscoped buffers. -/
theorem arrs1 : Pipeline.arrRefs (τ := τ) (pcfgs (F := F) 1).spec ⊆ Pipeline.ucRefs τ sig := Pipeline.arrRefs_sub_ucRefs spec1 (by decide)
/-- The call's arrays are among the program's unscoped buffers. -/
theorem arrs2 : Pipeline.arrRefs (τ := τ) (pcfgs (F := F) 2).spec ⊆ Pipeline.ucRefs τ sig := Pipeline.arrRefs_sub_ucRefs spec2 (by decide)
/-- The call's arrays are among the program's unscoped buffers. -/
theorem arrs3 : Pipeline.arrRefs (τ := τ) (pcfgs (F := F) 3).spec ⊆ Pipeline.ucRefs τ sig := Pipeline.arrRefs_sub_ucRefs spec3 (by decide)

/-- Call 0's segment is entered from the buffers held at the contents before it, and left at those after it. -/
theorem pre_of0 (c : Dev nD) : iprop(StableHlo.held (c : Thread nD τ) (Pipeline.ucRefs τ sig) (X7 m c) ∗ rest c) ⊢ (reg0 m).pre c := by
  unfold reg0 rest
  refine BIBase.Entails.trans ?_ (RegionSeg.ofHeldIn_pre arrs0 c)
  exact BI.Entails.refl _
/-- What the buffers hold after the call. -/
theorem post_of0 (c : Dev nD) : (reg0 m).post c ⊢ iprop(StableHlo.held (c : Thread nD τ) (Pipeline.ucRefs τ sig) (X8 m c) ∗ rest c) := by
  unfold reg0 rest
  refine (RegionSeg.ofHeldIn_post arrs0 c).trans (sep_mono ?_ .rfl)
  rw [show X8 m c = afterRegion (pdats m 0 c) _ from rfl]
/-- Call 1's segment is entered from the buffers held at the contents before it, and left at those after it. -/
theorem pre_of1 (c : Dev nD) : iprop(StableHlo.held (c : Thread nD τ) (Pipeline.ucRefs τ sig) (X8 m c) ∗ rest c) ⊢ (reg1 m).pre c := by
  unfold reg1 rest
  refine BIBase.Entails.trans ?_ (RegionSeg.ofHeldIn_pre arrs1 c)
  exact BI.Entails.refl _
/-- What the buffers hold after the call. -/
theorem post_of1 (c : Dev nD) : (reg1 m).post c ⊢ iprop(StableHlo.held (c : Thread nD τ) (Pipeline.ucRefs τ sig) (X9 m c) ∗ rest c) := by
  unfold reg1 rest
  refine (RegionSeg.ofHeldIn_post arrs1 c).trans (sep_mono ?_ .rfl)
  rw [show X9 m c = afterRegion (pdats m 1 c) _ from rfl]
/-- Call 2's segment is entered from the buffers held at the contents before it, and left at those after it. -/
theorem pre_of2 (c : Dev nD) : iprop(StableHlo.held (c : Thread nD τ) (Pipeline.ucRefs τ sig) (X10 m c) ∗ rest c) ⊢ (reg2 m).pre c := by
  unfold reg2 rest
  refine BIBase.Entails.trans ?_ (RegionSeg.ofHeldIn_pre arrs2 c)
  exact BI.Entails.refl _
/-- What the buffers hold after the call. -/
theorem post_of2 (c : Dev nD) : (reg2 m).post c ⊢ iprop(StableHlo.held (c : Thread nD τ) (Pipeline.ucRefs τ sig) (X11 m c) ∗ rest c) := by
  unfold reg2 rest
  refine (RegionSeg.ofHeldIn_post arrs2 c).trans (sep_mono ?_ .rfl)
  rw [show X11 m c = afterRegion (pdats m 2 c) _ from rfl]
/-- Call 3's segment is entered from the buffers held at the contents before it, and left at those after it. -/
theorem pre_of3 (c : Dev nD) : iprop(StableHlo.held (c : Thread nD τ) (Pipeline.ucRefs τ sig) (X12 m c) ∗ rest c) ⊢ (reg3 m).pre c := by
  unfold reg3 rest
  refine BIBase.Entails.trans ?_ (RegionSeg.ofHeldIn_pre arrs3 c)
  exact BI.Entails.refl _
/-- What the buffers hold after the call. -/
theorem post_of3 (c : Dev nD) : (reg3 m).post c ⊢ iprop(StableHlo.held (c : Thread nD τ) (Pipeline.ucRefs τ sig) (X13 m c) ∗ rest c) := by
  unfold reg3 rest
  refine (RegionSeg.ofHeldIn_post arrs3 c).trans (sep_mono ?_ .rfl)
  rw [show X13 m c = afterRegion (pdats m 3 c) _ from rfl]
/-! ## The run -/

set_option backward.isDefEq.respectTransparency.types false in
set_option maxHeartbeats 1000000 in
/-- Every fair run of the program ends, with every unscoped buffer at the last contents above and every counter at zero. -/
theorem run_main : θ_run defs (onTc (τ := τ) (main (F := F))) ⟨m, fun _ => 0, ρ⟩
    (fun r => (∀ (c : Dev nD) (b : Ref sig .tc), b.isScoped = false →
      r.2.mem ((c.tc : Thread nD τ).loc b) = X14 m c (Proc.devRef .tc b)) ∧ r.2.sem = fun _ => 0) := by
  refine Pipeline.θ_run_regions_kit_dev_sems (pcfgs (F := F)) adm (pdats m) () cellOf_inj emb₁ defs₀ Variants.none L lv m ρ main
    (items m)
    (fun c Q => by
      rewrite [main_chain c, Seg.run_eq_chain,
        show (items m c).map Seg.prog = [
          StableHlo.seq hostOps0, StableHlo.seq hostOps0_1, StableHlo.seq hostOps0_2, StableHlo.seq hostOps0_3,
          StableHlo.seq hostOps0_4, StableHlo.seq hostOps0_5, StableHlo.seq hostOps0_6,
          Prog.lift (.customCall (Pipeline.entry 0) ()), Prog.lift (.customCall (Pipeline.entry 1) ()),
          StableHlo.seq hostOps2, Prog.lift (.customCall (Pipeline.entry 2) ()),
          StableHlo.seq hostOps3, Prog.lift (.customCall (Pipeline.entry 3) ()), StableHlo.seq hostOps4] from rfl]
      dsimp (config := { failIfUnchanged := false }) only
      exact .rfl)
    (fun c => by simp only [items, Seg.pipes_host, Seg.pipes_region, Seg.pipes_nil]; decide)
    (O₀ := 0) (hL := hL) (G := fun _ => iprop(emp))
    (u₀ := initOf (Pipeline.cells (Pipeline.pin (pcfgs (F := F)) adm) cellOf_inj) (Pipeline.launchToks (Pipeline.pin (pcfgs (F := F)) adm) cellOf_inj))
    (hu₀ := ?_)
    (T₀ := fun c => iprop(StableHlo.held (c : Thread nD τ) (Pipeline.ucRefs τ sig) (Gen.V0 m c) ∗ rest c))
    (Tₙ := fun c => StableHlo.held (c : Thread nD τ) (Pipeline.ucRefs τ sig) (X14 m c))
    (hch := fun c => ⟨.rfl, .rfl, .rfl, .rfl, .rfl, .rfl, .rfl, pre_of0 m c, (post_of0 m c).trans (pre_of1 m c), post_of1 m c,
      pre_of2 m c, post_of2 m c, pre_of3 m c, post_of3 m c, sep_mono .rfl ?_⟩)
    (hinit := Pipeline.initEach L lv fun c => ?_)
    (QY := fun c s => ∀ b ∈ Pipeline.ucRefs τ sig, s.mem ((c.tc : Thread nD τ).1, b) = X14 m c b)
    (hfin := fun c s' => ?_)
    (hQ := fun _ h hz => ⟨fun c b hb => h c (Proc.devRef .tc b) (Pipeline.devRef_mem_ucRefs hb),
      funext fun g => hz g (.inr (regions_no_unscoped g.2))⟩)
  · iintro Hu
    imodintro
    isplitl [Hu]
    · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
      iexact Hu
    iapply (show (BI.emp : sProp 𝕄) ⊢ bigSep Finset.univ (fun _ : Dev nD => (BI.emp : sProp 𝕄)) from by rw [BI.bigSep_emp_const])
    iempintro
  · unfold rest
    iintro ⟨HO, -, -⟩
    iexact HO
  · rw [show unscopedBufs c (fun b => m ((c.tc : Thread nD τ).loc b)) = StableHlo.held (c.tc : Thread nD τ) (Pipeline.ucRefs τ sig) (Gen.V0 m c)
        from Pipeline.unscopedBufs_held (Ix := Unit) (Name := ℕ) (U := UR sig nD τ) (Lvl := ℕ) c (Gen.V0 m c)]
    iintro ⟨⟨Hh, -, HO, -, Hp, -⟩, -⟩
    imodintro
    isplitl [Hh]; · iexact Hh
    unfold rest
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c.tc : Thread nD τ).1, b)) (X14 m c) s') $$ [Hh HSI]
    · isplitl [Hh] <;> iassumption
    imodintro
    iexact Hr

/-! ## The arguments -/

/-- A buffer no item of @main writes ends as it was at launch. -/
theorem X14_of (c : Dev nD) (r : Ref sig .tc)
    (h0 : r ∉ hostOps0_W) (h1 : r ∉ hostOps0_1_W) (h2 : r ∉ hostOps0_2_W) (h3 : r ∉ hostOps0_3_W) (h4 : r ∉ hostOps0_4_W)
    (h5 : r ∉ hostOps0_5_W) (h6 : r ∉ hostOps0_6_W) (h9 : r ∉ hostOps2_W) (h11 : r ∉ hostOps3_W) (h13 : r ∉ hostOps4_W)
    (k0 : ∀ w, Pipeline.arrRef cfg0.spec w = r → (cfg0.win w).isOut = false)
    (k1 : ∀ w, Pipeline.arrRef cfg1.spec w = r → (cfg1.win w).isOut = false)
    (k2 : ∀ w, Pipeline.arrRef cfg2.spec w = r → (cfg2.win w).isOut = false)
    (k3 : ∀ w, Pipeline.arrRef cfg3.spec w = r → (cfg3.win w).isOut = false) :
    X14 m c (Proc.devRef .tc r) = m ((c.tc : Thread nD τ).loc r) :=
  (StableHlo.after_of_writes_sub hostOps4 _ hostOps4_writes h13).trans <|
  (Pipeline.afterRegion_keeps (Out.dat (X12 m) c) (X12 m c) launch3.win.arr_inj (fun w => rfl) r k3).trans <|
  (StableHlo.after_of_writes_sub hostOps3 _ hostOps3_writes h11).trans <|
  (Pipeline.afterRegion_keeps (Scan.dat (X10 m) c) (X10 m c) launch2.win.arr_inj (fun w => rfl) r k2).trans <|
  (StableHlo.after_of_writes_sub hostOps2 _ hostOps2_writes h9).trans <|
  (Pipeline.afterRegion_keeps (Proj.dat (X8 m) c) (X8 m c) launch1.win.arr_inj (fun w => rfl) r k1).trans <|
  (Pipeline.afterRegion_keeps (Bc.dat (X7 m) c) (X7 m c) launch0.win.arr_inj (fun w => rfl) r k0).trans <|
  (V7_of m c r h6).trans <| (V6_of m c r h5).trans <| (V5_of m c r h4).trans <| (V4_of m c r h3).trans <|
  (V3_of m c r h2).trans <| (V2_of m c r h1).trans <| (V1_of m c r h0)

/-- What the program leaves of its arguments: each as launched. -/
abbrev ArgsKept (m m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)

/-- Every argument ends as launched. -/
theorem X14_arg (c : Dev nD) (r : Ref sig .tc) (h : r ∈ [main_arg0, main_arg1, main_arg2, main_arg3, main_arg4, main_arg5, main_arg6, main_arg7, main_arg8]) :
    X14 m c (Proc.devRef .tc r) = m ((c.tc : Thread nD τ).loc r) := by
  refine X14_of m c r ?_ ?_ ?_ ?_ ?_ ?_ ?_ ?_ ?_ ?_ ?_ ?_ ?_ ?_ <;> revert r h <;> decide

/-- A final memory at the last contents has every argument as launched. -/
theorem args_of {m' : (ℓ : Loc nD τ sig) → Buf (Elt F) ℓ}
    (h : ∀ (c : Dev nD) (b : Ref sig .tc), b.isScoped = false → m' ((c.tc : Thread nD τ).loc b) = X14 m c (Proc.devRef .tc b))
    (c : Dev nD) : ArgsKept m m' c :=
  have k : ∀ r ∈ [main_arg0, main_arg1, main_arg2, main_arg3, main_arg4, main_arg5, main_arg6, main_arg7, main_arg8],
      m' ((c.tc : Thread nD τ).loc r) = m ((c.tc : Thread nD τ).loc r) := fun r hr =>
    (h c r (by revert r hr; decide)).trans (X14_arg m c r hr)
  ⟨k _ (by decide), k _ (by decide), k _ (by decide), k _ (by decide), k _ (by decide), k _ (by decide), k _ (by decide),
    k _ (by decide), k _ (by decide)⟩

/-- The frame: the program ends with its arguments as launched and every counter at zero. -/
theorem quiescent : θ_run defs (onTc (τ := τ) (main (F := F))) ⟨m, fun _ => 0, ρ⟩
    (fun r => (∀ c : Dev nD, ArgsKept m r.2.mem c) ∧ r.2.sem = fun _ => 0) :=
  (θ_run defs _ _).mono (fun _ h => ⟨args_of m h.1, h.2⟩) (run_main m ρ)

end Cert.KernelIdeal.Whole

end
-- ==== Proof.Same.lean ====
module

public import proofs.«01_k».proof.Proof.Gen.Kernel
public import proofs.«01_k».proof.Proof.Gen.KernelIdeal
public import proofs.«01_k».proof.Proof.Run

/-! The kernel and its idealization are the same program, so a run of one is a run of the other. -/

@[expose] public section

set_option maxRecDepth 65536
set_option maxHeartbeats 4000000

noncomputable section

namespace Cert.Same

open Idealize.ShloMosaic Idealize.ShloMosaic.TcCoe
open Idealize.SL Idealize.SL.Sem

variable {F : FTy → Type} [FloatOps F] [Cert.Kernel.Facts] [Cert.KernelIdeal.Facts]

/-- The two kernels' own definitions agree, label by label. -/
theorem defs₀_eq : (Cert.Kernel.defs₀ (F := F)) = Cert.KernelIdeal.defs₀ := by
  unfold Cert.Kernel.defs₀ Cert.KernelIdeal.defs₀
  refine congrArg Defs.onTc ?_
  funext l x; rcases l with ⟨l, hl⟩; rcases l with _ | _ | _ | _ | l
  · rfl
  · rfl
  · rfl
  · rfl
  · exact absurd hl (Nat.not_lt.2 (Nat.le_add_left _ _))

/-- The two programs' definitions agree. -/
theorem defs_eq : (Cert.Kernel.defs (F := F)) = Cert.KernelIdeal.defs := by
  unfold Cert.Kernel.defs Cert.KernelIdeal.defs
  rw [defs₀_eq]
  rfl

/-- The two programs' entry points agree. -/
theorem main_eq : (Cert.Kernel.main (F := F)) = Cert.KernelIdeal.main := by rfl

end Cert.Same

end
-- ==== Proof.RefFrame.lean ====
module

public import proofs.«01_k».proof.Proof.Gen.ReferenceIdeal.Run

/-! The reference's whole run: what every buffer holds at the end, with the arguments as they were launched. -/

@[expose] public section

set_option maxRecDepth 16384

noncomputable section

namespace Cert.ReferenceIdeal.Ref

open Cert.ReferenceIdeal Cert.ReferenceIdeal.Gen Cert.ReferenceIdeal.Value
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- The reference has no semaphores at all. -/
theorem no_sem (g : GSem nD τ sig) : False := by
  rcases g with ⟨_, s⟩
  revert s
  intro s
  rcases s with s | s <;> exact Fin.elim0 s

/-- A reference written by none of the given stretches keeps its contents through all of them. -/
theorem afterL_keep (r : Ref sig .tc) : ∀ (items : List (List (HloOp τ sig (Elt F)))) (Ws : List (List (Ref sig .tc))),
    List.Forall₂ (fun ops W => ops.Forall fun op => op.writes ⊆ (W.map (Proc.devRef (τ := τ) .tc)).toFinset) items Ws →
    (∀ W ∈ Ws, r ∉ W) → ∀ V : Valuation τ sig (Elt F), afterL items V (Proc.devRef .tc r) = V (Proc.devRef .tc r)
  | _, _, .nil, _, V => rfl
  | ops :: rest, W :: Ws, .cons h t, hr, V => by
    rw [afterL_cons, afterL_keep r rest Ws t (fun W hW => hr W (List.mem_cons_of_mem _ hW)) (after ops V)]
    exact after_of_writes_sub ops V h (hr W List.mem_cons_self)

/-- The references `hostOps0_7` writes, in order. -/
abbrev hostOps0_7_W : List (Ref sig .tc) := [main_v50, main_v51, main_cst_2, main_v52, main_v53, main_cst_3, main_v54, main_v55, main_cst_4, main_v56, main_v57, main_v58, main_v59, main_v60, main_v61, main_v62, main_v63, main_v64]
/-- The buffers these lines write. -/
theorem hostOps0_7_writes : (hostOps0_7 : List (HloOp τ sig (Elt F))).Forall fun op => op.writes ⊆ (hostOps0_7_W.map (Proc.devRef (τ := τ) .tc)).toFinset :=
  StableHlo.forall_writes_sub_of_map rfl
/-- The references `hostOps0_8` writes, in order. -/
abbrev hostOps0_8_W : List (Ref sig .tc) := [main_call7_v0, main_call7_v1, main_call7_cst, main_call7_v2, main_call7_v3, main_call7_cst_0, main_call7_v4, main_call7_v5, main_v65]
/-- The buffers these lines write. -/
theorem hostOps0_8_writes : (hostOps0_8 : List (HloOp τ sig (Elt F))).Forall fun op => op.writes ⊆ (hostOps0_8_W.map (Proc.devRef (τ := τ) .tc)).toFinset :=
  StableHlo.forall_writes_sub_of_map rfl
/-- The references `hostOps0_9` writes, in order. -/
abbrev hostOps0_9_W : List (Ref sig .tc) := [main_v66, main_v67, main_v68]
/-- The buffers these lines write. -/
theorem hostOps0_9_writes : (hostOps0_9 : List (HloOp τ sig (Elt F))).Forall fun op => op.writes ⊆ (hostOps0_9_W.map (Proc.devRef (τ := τ) .tc)).toFinset :=
  StableHlo.forall_writes_sub_of_map rfl

abbrev preW : List (List (Ref sig .tc)) := [hostOps0_W, hostOps0_1_W, hostOps0_2_W, hostOps0_3_W, hostOps0_4_W, hostOps0_5_W, hostOps0_6_W]
abbrev bodyW : List (List (Ref sig .tc)) := [while0Ops0_W, while0Ops0_1_W, while0Ops0_2_W, while0Ops0_3_W, while0Ops0_4_W, while0Ops0_5_W]
abbrev postW : List (List (Ref sig .tc)) := [hostOps0_7_W, hostOps0_8_W, hostOps0_9_W]

/-- The buffers these lines write. -/
theorem pre_writes : List.Forall₂ (fun (ops : List (HloOp τ sig (Elt F))) W => ops.Forall fun op => op.writes ⊆ (W.map (Proc.devRef (τ := τ) .tc)).toFinset) preI preW :=
  .cons hostOps0_writes (.cons hostOps0_1_writes (.cons hostOps0_2_writes (.cons hostOps0_3_writes (.cons hostOps0_4_writes (.cons hostOps0_5_writes (.cons hostOps0_6_writes .nil))))))
/-- The buffers these lines write. -/
theorem body_writes : List.Forall₂ (fun (ops : List (HloOp τ sig (Elt F))) W => ops.Forall fun op => op.writes ⊆ (W.map (Proc.devRef (τ := τ) .tc)).toFinset) bodyI bodyW :=
  .cons while0Ops0_writes (.cons while0Ops0_1_writes (.cons while0Ops0_2_writes (.cons while0Ops0_3_writes (.cons while0Ops0_4_writes (.cons while0Ops0_5_writes .nil)))))
/-- The buffers these lines write. -/
theorem post_writes : List.Forall₂ (fun (ops : List (HloOp τ sig (Elt F))) W => ops.Forall fun op => op.writes ⊆ (W.map (Proc.devRef (τ := τ) .tc)).toFinset) postI postW :=
  .cons hostOps0_7_writes (.cons hostOps0_8_writes (.cons hostOps0_9_writes .nil))

/-- A buffer that neither the condition nor the body writes holds through every trip what it held at the loop's entry. -/
theorem atK_keep (r : Ref sig .tc) (hc : r ∉ condOps_W) (hb : ∀ W ∈ bodyW, r ∉ W) (c : Dev nD) :
    ∀ k, atK m k c (Proc.devRef .tc r) = entryContents preI m c (Proc.devRef .tc r)
  | 0 => rfl
  | k + 1 => by
    rw [← atK_keep r hc hb c k]
    show afterL bodyI (after condOps (atK m k c)) _ = _
    rw [afterL_keep r _ _ body_writes hb, after_of_writes_sub condOps _ condOps_writes hc]

/-- A buffer no operation of the program writes ends as launched. -/
theorem final_keep (r : Ref sig .tc) (hp : ∀ W ∈ preW, r ∉ W) (hc : r ∉ condOps_W) (hb : ∀ W ∈ bodyW, r ∉ W) (hq : ∀ W ∈ postW, r ∉ W)
    (c : Dev nD) : finalContents condOps preI bodyI postI 4096 m c (Proc.devRef .tc r) = m (c.tc.loc r) := by
  show afterL postI (after condOps (atK m 4096 c)) _ = _
  rw [afterL_keep r _ _ post_writes hq, after_of_writes_sub condOps _ condOps_writes hc, atK_keep m r hc hb c]
  exact afterL_keep r _ _ pre_writes hp _

/-- The nine arguments end as they were launched. -/
theorem args_kept (c : Dev nD) (r : Ref sig .tc) (h : r ∈ [main_arg0, main_arg1, main_arg2, main_arg3, main_arg4, main_arg5, main_arg6, main_arg7, main_arg8]) :
    finalContents condOps preI bodyI postI 4096 m c (Proc.devRef .tc r) = m (c.tc.loc r) := by
  have H : ∀ r ∈ ([main_arg0, main_arg1, main_arg2, main_arg3, main_arg4, main_arg5, main_arg6, main_arg7, main_arg8] : List (Ref sig .tc)),
      (∀ W ∈ preW, r ∉ W) ∧ r ∉ condOps_W ∧ (∀ W ∈ bodyW, r ∉ W) ∧ ∀ W ∈ postW, r ∉ W := by decide +kernel
  obtain ⟨h1, h2, h3, h4⟩ := H r h
  exact final_keep m r h1 h2 h3 h4 c

/-- The nine arguments of core `c` hold in `m'` what they held in `m`. -/
def ArgsKept (m' : (ℓ : Loc nD τ sig) → Buf (Elt F) ℓ) (c : Dev nD) : Prop :=
  m' (c.tc.loc main_arg0) = m (c.tc.loc main_arg0) ∧ m' (c.tc.loc main_arg1) = m (c.tc.loc main_arg1)
  ∧ m' (c.tc.loc main_arg2) = m (c.tc.loc main_arg2) ∧ m' (c.tc.loc main_arg3) = m (c.tc.loc main_arg3)
  ∧ m' (c.tc.loc main_arg4) = m (c.tc.loc main_arg4) ∧ m' (c.tc.loc main_arg5) = m (c.tc.loc main_arg5)
  ∧ m' (c.tc.loc main_arg6) = m (c.tc.loc main_arg6) ∧ m' (c.tc.loc main_arg7) = m (c.tc.loc main_arg7)
  ∧ m' (c.tc.loc main_arg8) = m (c.tc.loc main_arg8)

/-- The reference runs; its result is the fold of its operations, its arguments end as launched, and no semaphore is raised. -/
theorem run_ref : θ_run defs (onTc (τ := τ) (main (F := F))) ⟨m, fun _ => 0, ρ⟩ (fun r =>
    (∀ c, r.2.mem (c.tc.loc main_v68) = finalContents condOps preI bodyI postI 4096 m c (Proc.devRef .tc main_v68) ∧ ArgsKept m r.2.mem c)
    ∧ r.2.sem = fun _ => 0) := by
  refine (θ_run defs _ _).mono (fun r h => ⟨fun c => ⟨h c main_v68 rfl, ?_⟩, funext fun g => (no_sem g).elim⟩) (run_fold m ρ)
  refine ⟨?_, ?_, ?_, ?_, ?_, ?_, ?_, ?_, ?_⟩ <;> exact (h c _ rfl).trans (args_kept m c _ (by decide))

end Cert.ReferenceIdeal.Ref

end
-- ==== Proof.Spec.lean ====
module

public import Idealize.ShloMosaic.PureOps.Ideal
public import Idealize.ShloMosaic.PureOps.IdealRules

/-! The layer as plain mathematics over the extended reals, entry by entry: what both programs are shown to compute. -/

@[expose] public section

noncomputable section

namespace Cert.Spec

open Idealize.ShloMosaic

/-- Two finite sums with equal terms are equal. -/
theorem sum_ext {n : ℕ} {f g : Fin n → EReal} (h : ∀ i, f i = g i) : ∑ i, f i = ∑ i, g i := Finset.sum_congr rfl fun i _ => h i

/-- The nine argument arrays, read by their coordinates. -/
structure Args where
  hid : Fin 2 → Fin 4096 → Fin 2560 → EReal
  wqkv : Fin 8192 → Fin 2560 → EReal
  wb : Fin 32 → Fin 2560 → EReal
  wa : Fin 32 → Fin 2560 → EReal
  cw : Fin 8192 → Fin 4 → EReal
  wo : Fin 2560 → Fin 4096 → EReal
  nw : Fin 128 → EReal
  al : Fin 32 → EReal
  db : Fin 32 → EReal

variable (A : Args)

/-- A row of the hidden states against a row of a weight matrix. -/
def dot {n : ℕ} (x : Fin 2 → Fin 4096 → Fin 2560 → EReal) (w : Fin n → Fin 2560 → EReal) (b : Fin 2) (s : Fin 4096) (e : Fin n) : EReal :=
  ∑ k, x b s k * w e k

/-- The wide projection, shifted three steps later with zeros in front. -/
def lag (b : Fin 2) (s : ℕ) (e : Fin 8192) : EReal :=
  if h : 3 ≤ s ∧ s - 3 < 4096 then dot A.hid A.wqkv b ⟨s - 3, h.2⟩ e else 0

/-- The causal convolution over four steps. -/
def conv (b : Fin 2) (s : Fin 4096) (e : Fin 8192) : EReal :=
  lag A b s e * A.cw e 0 + lag A b (1 + s) e * A.cw e 1 + lag A b (2 + s) e * A.cw e 2 + lag A b (3 + s) e * A.cw e 3

def silu (v : EReal) : EReal := v * Ideal.logistic v

def act (b : Fin 2) (s : Fin 4096) (e : Fin 8192) : EReal := silu (conv A b s e)

/-- `log (1 + exp x)`, as both programs write it. -/
def softplus (x : EReal) : EReal := max x 0 + Ideal.log1p (Ideal.exp (-(max x (-x))))

def dt (n : Fin 32) : EReal := softplus (A.db n)

def ld (n : Fin 32) : EReal := dt A n * -(Ideal.exp (A.al n))

/-- A first-order recurrence with a constant decay, from zero. -/
def hseq (E : EReal) (v : ℕ → EReal) : ℕ → EReal
  | 0 => 0
  | s + 1 => E * hseq E v s + v s

/-- The head of a column. -/
def hd (e : Fin 4096) : Fin 32 := ⟨e.val / 128, by omega⟩
def lo (e : Fin 4096) : Fin 8192 := ⟨e.val, by omega⟩
def hi (e : Fin 4096) : Fin 8192 := ⟨4096 + e.val, by omega⟩
def col (n : Fin 32) (d : Fin 128) : Fin 4096 := ⟨n.val * 128 + d.val, by omega⟩

/-- What the state takes in at a step. -/
def inp (b : Fin 2) (e : Fin 4096) (s : ℕ) : EReal :=
  if h : s < 4096 then (dt A (hd e) * dot A.hid A.wb b ⟨s, h⟩ (hd e)) * act A b ⟨s, h⟩ (lo e) else 0

/-- The state of a column before step `s`. -/
def st (b : Fin 2) (e : Fin 4096) : ℕ → EReal := hseq (Ideal.exp (ld A (hd e))) (inp A b e)

def y (b : Fin 2) (s : Fin 4096) (e : Fin 4096) : EReal :=
  dot A.hid A.wa b s (hd e) * st A b e (s + 1)

def eps : EReal := Ideal.ofBits .f32 0x358637BD#32

/-- The mean square of a head's columns. -/
def ms (b : Fin 2) (s : Fin 4096) (n : Fin 32) : EReal :=
  Ideal.div (∑ d : Fin 128, y A b s (col n d) * y A b s (col n d)) (Ideal.ofBits .f32 0x43000000#32)

def fin (b : Fin 2) (s : Fin 4096) (e : Fin 4096) : EReal :=
  y A b s e * Ideal.rsqrt (ms A b s (hd e) + eps) * A.nw ⟨e.val % 128, by omega⟩ * act A b s (hi e)

def out (b : Fin 2) (s : Fin 4096) (o : Fin 2560) : EReal :=
  ∑ e : Fin 4096, fin A b s e * A.wo o e

end Cert.Spec

end
-- ==== Proof.Maths.lean ====
module

public import proofs.«01_k».proof.Proof.Spec
public import Idealize.ShloMosaic.PureOps.Ideal.Laws
public import Idealize.ShloMosaic.Lib.IdealHost

/-! Laws of the extended reals that carry the step-by-step recurrence over to chunks: powers of a decay, sums they distribute over, one-hot sums and a mean. -/

@[expose] public section

noncomputable section

namespace Cert.Spec

open Idealize.ShloMosaic

/-- The decay over `n` steps. -/
def pw (L : EReal) (n : ℕ) : EReal := Ideal.exp (L * ((n : ℝ) : EReal))

/-- The zeroth power is one. -/
theorem pw_zero (L : EReal) : pw L 0 = 1 := by
  unfold pw
  rw [Nat.cast_zero, EReal.coe_zero, mul_zero, ← EReal.coe_zero, Ideal.exp_coe, Real.exp_zero, EReal.coe_one]

/-- The first power is the decay. -/
theorem pw_one (L : EReal) : pw L 1 = Ideal.exp L := by
  unfold pw
  rw [Nat.cast_one, EReal.coe_one, mul_one]

/-- The next power is one more factor of the decay. -/
theorem pw_succ {L : EReal} (hL : L ≤ 0) (n : ℕ) : pw L (n + 1) = Ideal.exp L * pw L n := by
  unfold pw
  have hp : (0 : ℝ) < ((n + 1 : ℕ) : ℝ) := by positivity
  induction L using EReal.rec with
  | bot => rw [EReal.bot_mul_coe_of_pos hp, Ideal.exp_bot, zero_mul]
  | top => exact absurd hL (by simp)
  | coe r =>
    rw [← EReal.coe_mul, ← EReal.coe_mul, Ideal.exp_coe, Ideal.exp_coe, Ideal.exp_coe, ← EReal.coe_mul, ← Real.exp_add]
    congr 2
    push_cast
    ring

/-- An exponential is not negative. -/
theorem exp_nonneg (x : EReal) : 0 ≤ Ideal.exp x := by
  induction x using EReal.rec with
  | bot => exact le_refl _
  | top => exact le_top
  | coe r => rw [Ideal.exp_coe]; exact EReal.coe_nonneg.mpr (Real.exp_nonneg r)

/-- An exponential of a number that is not positive is not infinite. -/
theorem exp_ne_top {x : EReal} (h : x ≤ 0) : Ideal.exp x ≠ ⊤ := by
  induction x using EReal.rec with
  | bot => rw [Ideal.exp_bot]; exact EReal.zero_ne_top
  | top => exact absurd h (by simp)
  | coe r => rw [Ideal.exp_coe]; exact EReal.coe_ne_top _

/-- A finite nonnegative factor goes into a sum. -/
theorem mul_sum {n : ℕ} {c : EReal} (h0 : 0 ≤ c) (ht : c ≠ ⊤) (f : ℕ → EReal) : c * ∑ j ∈ Finset.range n, f j = ∑ j ∈ Finset.range n, c * f j := by
  induction n with
  | zero => simp
  | succ n ih => rw [Finset.sum_range_succ, Finset.sum_range_succ, EReal.left_distrib_of_nonneg_of_ne_top h0 ht, ih]

/-- `n` steps of the recurrence at once. -/
theorem hseq_add {L : EReal} (hL : L ≤ 0) (v : ℕ → EReal) (s n : ℕ) :
    hseq (Ideal.exp L) v (s + n) = (∑ j ∈ Finset.range n, pw L (n - 1 - j) * v (s + j)) + pw L n * hseq (Ideal.exp L) v s := by
  induction n with
  | zero => rw [Finset.range_zero, Finset.sum_empty, zero_add, pw_zero, one_mul, add_zero]
  | succ n ih =>
    rw [← add_assoc, hseq, ih, EReal.left_distrib_of_nonneg_of_ne_top (exp_nonneg L) (exp_ne_top hL), mul_sum (exp_nonneg L) (exp_ne_top hL),
      ← mul_assoc, ← pw_succ hL, Finset.sum_range_succ, show n + 1 - 1 - n = 0 by omega, pw_zero, one_mul, add_right_comm]
    congr 2
    refine Finset.sum_congr rfl fun j hj => ?_
    have hj := Finset.mem_range.mp hj
    rw [← mul_assoc, ← pw_succ hL, show n - 1 - j + 1 = n + 1 - 1 - j by omega]

/-- A sum over 256 terms of which only the first `i + 1` are there. -/
theorem sum_tri (i : Fin 256) (f : ℕ → EReal) : ∑ j : Fin 256, (if j.val ≤ i.val then f j.val else 0) = ∑ j ∈ Finset.range (i.val + 1), f j := by
  rw [Fin.sum_univ_eq_sum_range (fun j => if j ≤ i.val then f j else 0) 256, ← Finset.sum_filter]
  congr 1
  ext j
  simp only [Finset.mem_filter, Finset.mem_range]
  omega

/-- The state after row `i` of a chunk, from the state before the chunk. -/
theorem chunk_row {L : EReal} (hL : L ≤ 0) (v : ℕ → EReal) (s : ℕ) (i : Fin 256) :
    (∑ j : Fin 256, (if j.val ≤ i.val then pw L (i.val - j.val) * v (s + j.val) else 0)) + pw L (i.val + 1) * hseq (Ideal.exp L) v s
      = hseq (Ideal.exp L) v (s + i.val + 1) := by
  rw [add_assoc, hseq_add hL, sum_tri i (fun j => pw L (i.val - j) * v (s + j))]
  rfl

/-- The state after a chunk. -/
theorem chunk_end {L : EReal} (hL : L ≤ 0) (v : ℕ → EReal) (s : ℕ) :
    pw L 256 * hseq (Ideal.exp L) v s + ∑ j : Fin 256, pw L (255 - j.val) * v (s + j.val) = hseq (Ideal.exp L) v (s + 256) := by
  rw [hseq_add hL, Fin.sum_univ_eq_sum_range (fun j => pw L (255 - j) * v (s + j)) 256, add_comm]

/-- A sum against a one-hot column is its entry there. -/
theorem sum_hot {n : ℕ} (f : Fin n → EReal) (k : Fin n) : ∑ j, f j * (if j = k then 1 else 0) = f k := by
  rw [Finset.sum_eq_single k]
  · rw [if_pos rfl, mul_one]
  · intro j _ hj; rw [if_neg hj, mul_zero]
  · intro h; exact absurd (Finset.mem_univ k) h

/-- Softplus is not negative. -/
theorem softplus_nonneg (x : EReal) : 0 ≤ softplus x := by
  unfold softplus
  refine add_nonneg (le_max_right _ _) ?_
  unfold Ideal.log1p
  have h : (1 : EReal) ≤ 1 + Ideal.exp (-(max x (-x))) := le_add_of_nonneg_right (exp_nonneg _)
  revert h
  generalize 1 + Ideal.exp (-(max x (-x))) = y
  intro h
  induction y using EReal.rec with
  | bot => exact absurd (le_bot_iff.mp h) (by rw [← EReal.coe_one]; exact EReal.coe_ne_bot 1)
  | top => exact le_top
  | coe r =>
    have hr : (1 : ℝ) ≤ r := by exact_mod_cast h
    rw [Ideal.log_coe, if_neg (by linarith)]
    exact EReal.coe_nonneg.mpr (Real.log_nonneg hr)

/-- The decay's exponent is never positive. -/
theorem ld_nonpos (A : Args) (n : Fin 32) : ld A n ≤ 0 := by
  unfold ld
  rw [mul_neg, EReal.neg_le, neg_zero]
  exact mul_nonneg (softplus_nonneg _) (exp_nonneg _)

/-- The word of 255. -/
theorem c255 : Ideal.ofBits .f32 0x437F0000#32 = ((255 : ℝ) : EReal) := by
  simp [Ideal.ofBits, Ideal.ieee]; rw [← EReal.coe_mul]; norm_num
/-- The word of 256. -/
theorem c256 : Ideal.ofBits .f32 0x43800000#32 = ((256 : ℝ) : EReal) := by
  simp [Ideal.ofBits, Ideal.ieee]; rw [← EReal.coe_mul]; norm_num
/-- The word of 128. -/
theorem c128 : Ideal.ofBits .f32 0x43000000#32 = ((128 : ℝ) : EReal) := by
  simp [Ideal.ofBits, Ideal.ieee]; rw [← EReal.coe_mul]; norm_num

/-- Dividing by 128 is multiplying by its inverse. -/
theorem div128 (x : EReal) : Ideal.div x (Ideal.ofBits .f32 0x43000000#32) = x * ((1 / 128 : ℝ) : EReal) := by
  rw [c128, Ideal.div_coe (by norm_num : (128 : ℝ) ≠ 0)]

/-- The columns of a head, among all columns. -/
theorem sum_head (f : Fin 4096 → EReal) (n : Fin 32) : ∑ e, (if n = hd e then f e else 0) = ∑ d : Fin 128, f (col n d) := by
  rw [← Finset.sum_filter]
  refine (Finset.sum_bij (fun (d : Fin 128) _ => col n d) (fun d _ => ?_) (fun a _ b _ h => ?_) (fun e he => ?_) (fun d _ => rfl)).symm
  · refine Finset.mem_filter.mpr ⟨Finset.mem_univ _, Fin.ext ?_⟩
    show n.val = (n.val * 128 + d.val) / 128
    omega
  · have h : n.val * 128 + a.val = n.val * 128 + b.val := congrArg Fin.val h
    exact Fin.ext (by omega)
  · have h : n.val = e.val / 128 := congrArg Fin.val (Finset.mem_filter.mp he).2
    refine ⟨⟨e.val % 128, by omega⟩, Finset.mem_univ _, Fin.ext ?_⟩
    show n.val * 128 + e.val % 128 = e.val
    omega

/-- A head's mean, as a sum over all columns against the head's weights. -/
theorem mean_head (f : Fin 4096 → EReal) (n : Fin 32) :
    ∑ e, f e * Ideal.div (if n = hd e then 1 else 0) (Ideal.ofBits .f32 0x43000000#32) = Ideal.div (∑ d : Fin 128, f (col n d)) (Ideal.ofBits .f32 0x43000000#32) := by
  have h0 : (0 : EReal) ≤ ((1 / 128 : ℝ) : EReal) := EReal.coe_nonneg.mpr (by norm_num)
  have ht : ((1 / 128 : ℝ) : EReal) ≠ ⊤ := EReal.coe_ne_top _
  have key : ∀ (s : Finset (Fin 128)), (∑ d ∈ s, f (col n d)) * ((1 / 128 : ℝ) : EReal) = ∑ d ∈ s, f (col n d) * ((1 / 128 : ℝ) : EReal) := by
    intro s
    induction s using Finset.induction_on with
    | empty => simp
    | insert a s ha ih => rw [Finset.sum_insert ha, Finset.sum_insert ha, EReal.right_distrib_of_nonneg_of_ne_top h0 ht, ih]
  rw [div128, key, ← sum_head (fun e => f e * ((1 / 128 : ℝ) : EReal)) n]
  refine Finset.sum_congr rfl fun e _ => ?_
  rw [div128]
  split
  · rw [one_mul]
  · rw [zero_mul, mul_zero]

end Cert.Spec

end
-- ==== Proof.HostPre.lean ====
module

public import proofs.«01_k».proof.Proof.Run
public import proofs.«01_k».proof.Proof.Maths
public import Idealize.ShloMosaic.Lib.DynamicIndex
public import Idealize.ShloMosaic.Lib.StableHlo.ReadAt
public import Idealize.ShloMosaic.Lib.Pointwise.Tactic
public import Idealize.ShloMosaic.Lib.Pointwise.Contract
public import Idealize.ShloMosaic.Lib.Pointwise.Reduce

/-! What the kernel program's host lines compute, entry by entry. -/

@[expose] public section

set_option maxRecDepth 16384
set_option maxHeartbeats 1000000

noncomputable section

namespace Cert.KernelIdeal.Pre

open Cert.KernelIdeal Cert.KernelIdeal.Gen
open Idealize.ShloMosaic Idealize.ShloMosaic.TcCoe Idealize.ShloMosaic.StableHlo
open Idealize.SL Idealize.SL.Sem

variable (V : Valuation τ sig (Elt Ideal))

/-! One lemma per buffer, over what the stretch starts from. -/

/-- The hidden states, flattened over the batch. -/
theorem r_v0 (r : Fin 8192) (k : Fin 2560) : after hostOps0 V (Proc.devRef .tc main_v0) (ix2 r k) = V (Proc.devRef .tc main_arg0) (ix3 ⟨r.val / 4096, by omega⟩ ⟨r.val % 4096, by omega⟩ k) := by
  after_reads_at
/-- The wide projection's weights. -/
theorem r_v1 (r : Fin 8192) (k : Fin 2560) : after hostOps0 V (Proc.devRef .tc main_v1) (ix2 r k) = V (Proc.devRef .tc main_arg1) (ix2 r k) := by
  after_reads_at
/-- The joined narrow weights, first half. -/
theorem r_v2b (n : Fin 32) (k : Fin 2560) : after hostOps0 V (Proc.devRef .tc main_v2) (ix2 ⟨n.val, by omega⟩ k) = V (Proc.devRef .tc main_arg2) (ix2 n k) := by
  after_reads_at
/-- The joined narrow weights, second half. -/
theorem r_v2a (n : Fin 32) (k : Fin 2560) : after hostOps0 V (Proc.devRef .tc main_v2) (ix2 ⟨32 + n.val, by omega⟩ k) = V (Proc.devRef .tc main_arg3) (ix2 n k) := by
  after_reads_at
/-- The output projection's weights. -/
theorem r_v3 (r : Fin 2560) (k : Fin 4096) : after hostOps0 V (Proc.devRef .tc main_v3) (ix2 r k) = V (Proc.devRef .tc main_arg5) (ix2 r k) := by
  after_reads_at
/-- The step size is the softplus of its bias. -/
theorem r_v4 (n : Fin 32) : after hostOps0_1 V (Proc.devRef .tc main_v4) (ix1 n) = Spec.softplus (V (Proc.devRef .tc main_arg8) (ix1 n)) := by
  after_reads_at
  generalize (V (Proc.devRef .tc main_arg8) (ix1 n)) = x
  have h : FloatOps.cmpf CmpFPredicate.une (F := Ideal) (φ := .f32) x x = 0#1 := by
    show Ideal.cmp _ _ _ = _
    simp [Ideal.cmp]
  rw [h]
  rfl
def ldOf (t a : EReal) : EReal := t * -(Ideal.exp a)
/-- The decay's exponent. -/
theorem r_v7 (n : Fin 32) : after hostOps0_2 V (Proc.devRef .tc main_v7) (ix1 n) = ldOf (V (Proc.devRef .tc main_v4) (ix1 n)) (V (Proc.devRef .tc main_arg7) (ix1 n)) := by
  after_reads_at
  rfl

/-- A small number's word, converted, is the number. -/
theorem sitofp_small {k : ℕ} (hk : k < 2 ^ 31) : FloatOps.sitofp (F := Ideal) .f32 (BitVec.ofNat 32 k) = ((k : ℝ) : EReal) := by
  show (((BitVec.ofNat 32 k).toInt : ℝ) : EReal) = _
  rw [toInt_ofNat_of_lt hk]
  norm_num

/-- The counter of steps in a block. -/
theorem r_v8 (i : Fin 256) : after hostOps0_2 V (Proc.devRef .tc main_v8) (ix1 i) = ((i.val : ℝ) : EReal) := by
  after_reads_at
  exact sitofp_small (by omega)
/-- The zero constant. -/
theorem r_cst : after hostOps0_2 V (Proc.devRef .tc main_cst_0) ix0 = (0 : EReal) := by
  after_reads_at
/-- The lower triangle's mask. -/
theorem r_v15 (i j : Fin 256) : after hostOps0_2 V (Proc.devRef .tc main_v15) (ix2 i j) = if j.val ≤ i.val then (1#1 : BitVec 1) else 0#1 := by
  after_reads_at
  rw [sitofp_small (by omega), sitofp_small (by omega)]
  show Ideal.cmp _ _ _ = _
  rw [← EReal.coe_sub]
  by_cases h : j.val ≤ i.val
  · rw [if_pos h]
    have : (0 : EReal) ≤ ((((i.val : ℝ) - (j.val : ℝ) : ℝ)) : EReal) := EReal.coe_nonneg.mpr (sub_nonneg.mpr (by exact_mod_cast h))
    show BitVec.ofBool (decide ((0 : EReal) ≤ _)) = _
    rw [decide_eq_true this]
    rfl
  · rw [if_neg h]
    have : ¬ (0 : EReal) ≤ ((((i.val : ℝ) - (j.val : ℝ) : ℝ)) : EReal) := fun h' => h (by have := EReal.coe_nonneg.mp h'; exact_mod_cast sub_nonneg.mp this)
    show BitVec.ofBool (decide ((0 : EReal) ≤ _)) = _
    rw [decide_eq_false this]
    rfl
/-- The decay powers, on and below the diagonal. -/
theorem r_v21 (n : Fin 32) (i j : Fin 256) (h : j.val ≤ i.val) : after hostOps0_2 V (Proc.devRef .tc main_v21) (ix3 n i j)
    = Spec.pw (ldOf (V (Proc.devRef .tc main_v4) (ix1 n)) (V (Proc.devRef .tc main_arg7) (ix1 n))) (i.val - j.val) := by
  after_reads_at
  rw [sitofp_small (by omega), sitofp_small (by omega), ← EReal.coe_sub, ← Nat.cast_sub h]
  rfl
/-- The masked decay powers. -/
theorem r_v22 (n : Fin 32) (i j : Fin 256) : after hostOps0_3 V (Proc.devRef .tc main_v22) (ix3 n i j)
    = Scalar.select (V (Proc.devRef .tc main_v15) (ix2 i j)) (V (Proc.devRef .tc main_v21) (ix3 n i j)) (V (Proc.devRef .tc main_cst_0) ix0) := by
  after_reads_at
  rfl
def prod (x y : EReal) : EReal := x * y
/-- The operator's rows for a block's outputs. -/
theorem r_v39 (n : Fin 32) (i j : Fin 256) : after hostOps0_4 V (Proc.devRef .tc main_v39) (ix3 n ⟨i.val, by omega⟩ j)
    = prod (V (Proc.devRef .tc main_v22) (ix3 n i j)) (V (Proc.devRef .tc main_v4) (ix1 n)) := by
  after_reads_at
  after_reads_simp
  pointwise
  rfl
def wst (t l x : EReal) : EReal := t * Ideal.exp (l * (Ideal.ofBits .f32 0x437F0000#32 - x))
/-- The operator's row for the state. -/
theorem r_v39w (n : Fin 32) (j : Fin 256) : after hostOps0_4 V (Proc.devRef .tc main_v39) (ix3 n ⟨256, by omega⟩ j)
    = wst (V (Proc.devRef .tc main_v4) (ix1 n)) (V (Proc.devRef .tc main_v7) (ix1 n)) (V (Proc.devRef .tc main_v8) (ix1 j)) := by
  after_reads_at
  after_reads_simp
  pointwise
  rfl
def apw (l x : EReal) : EReal := Ideal.exp (l * (x + 1))
/-- The decay powers applied to the incoming state. -/
theorem r_v47 (i : Fin 256) (n : Fin 32) : after hostOps0_4 V (Proc.devRef .tc main_v47) (ix2 i n) = apw (V (Proc.devRef .tc main_v7) (ix1 n)) (V (Proc.devRef .tc main_v8) (ix1 i)) := by
  after_reads_at
  rfl
def qpw (l : EReal) : EReal := Ideal.exp (l * Ideal.ofBits .f32 0x43800000#32)
/-- The decay over a whole block. -/
theorem r_v51 (n : Fin 32) : after hostOps0_4 V (Proc.devRef .tc main_v51) (ix2 0 n) = qpw (V (Proc.devRef .tc main_v7) (ix1 n)) := by
  after_reads_at
  rfl
/-- The convolution weights, transposed. -/
theorem r_v53 (k : Fin 4) (e : Fin 8192) : after hostOps0_4 V (Proc.devRef .tc main_v53) (ix2 k e) = V (Proc.devRef .tc main_arg4) (ix3 e 0 k) := by
  after_reads_at
/-- The counter of columns. -/
theorem r_v54 (e : Fin 4096) : after hostOps0_4 V (Proc.devRef .tc main_v54) (ix1 e) = (BitVec.ofNat 32 e.val : BitVec 32) := by
  after_reads_at
/-- The head width as a constant. -/
theorem r_c : after hostOps0_4 V (Proc.devRef .tc main_c) ix0 = (128#32 : BitVec 32) := by
  after_reads_at
def sgW (x : BitVec 32) : BitVec 32 := if x = 0 then 0 else if BitVec.msb x = true then -1 else 1
def headW (x y : BitVec 32) : BitVec 32 :=
  Scalar.select
    (IntOp.andi
      (IntOp.cmpi CmpIPredicate.ne (sgW x) (sgW y))
      (IntOp.cmpi CmpIPredicate.ne (IntOp.remsi ArithUnit.host x y) 0#32))
    (IntOp.subi (IntOp.divsi ArithUnit.host x y) 1#32) (IntOp.divsi ArithUnit.host x y)
/-- The division, as the program writes it, gives a column's head. -/
theorem headW_eq : ∀ e : Fin 4096, headW (BitVec.ofNat 32 e.val) 128#32 = BitVec.ofNat 32 (e.val / 128) := by decide +kernel
/-- The head of each column. -/
theorem r_v55 (e : Fin 4096) : after hostOps0_5 V (Proc.devRef .tc main_v55) (ix1 e) = headW (V (Proc.devRef .tc main_v54) (ix1 e)) (V (Proc.devRef .tc main_c) ix0) := by
  after_reads_at
  rfl
def hot (n e : ℕ) : EReal := if n = e then 1 else 0
/-- A comparison of two small numbers, as a float, is one or zero. -/
theorem hot_eq {n e : ℕ} (hn : n < 2 ^ 32) (he : e < 2 ^ 32) : FloatOps.uitofp (F := Ideal) .f32 (IntOp.cmpi CmpIPredicate.eq (BitVec.ofNat 32 n) (BitVec.ofNat 32 e)) = hot n e := by
  unfold hot
  show (((IntOp.cmpi CmpIPredicate.eq (BitVec.ofNat 32 n) (BitVec.ofNat 32 e)).toNat : ℝ) : EReal) = _
  by_cases h : n = e
  · subst h
    simp [IntOp.cmpi]
  · rw [if_neg h]
    have hne : BitVec.ofNat 32 n ≠ BitVec.ofNat 32 e := fun h' => h (by
      have := congrArg BitVec.toNat h'
      rw [BitVec.toNat_ofNat, BitVec.toNat_ofNat, Nat.mod_eq_of_lt hn, Nat.mod_eq_of_lt he] at this
      exact this)
    simp [IntOp.cmpi, hne]
/-- The selector from heads to columns. -/
theorem r_v62 (n : Fin 32) (e : Fin 4096) (k : ℕ) (hk : k < 2 ^ 32) (h : V (Proc.devRef .tc main_v55) (ix1 e) = (BitVec.ofNat 32 k : BitVec 32)) :
    after hostOps0_6 V (Proc.devRef .tc main_v62) (ix2 n e) = hot n.val k := by
  after_reads_at
  rw [h]
  exact hot_eq (by omega) hk
/-- The selector from columns to heads, divided by the head width. -/
theorem r_v65 (n : Fin 32) (e : Fin 4096) (k : ℕ) (hk : k < 2 ^ 32) (h : V (Proc.devRef .tc main_v55) (ix1 e) = (BitVec.ofNat 32 k : BitVec 32)) :
    after hostOps0_6 V (Proc.devRef .tc main_v65) (ix2 e n) = Ideal.div (hot n.val k) (Ideal.ofBits .f32 0x43000000#32) := by
  after_reads_at
  rw [h]
  exact congrArg (Ideal.div · _) (hot_eq (by omega) hk)
/-- The decay powers, spread over a head's columns. -/
theorem r_v67 (i : Fin 256) (e : Fin 4096) : after hostOps0_6 V (Proc.devRef .tc main_v67) (ix2 i e) = V (Proc.devRef .tc main_v47) (ix2 i (Spec.hd e)) := by
  after_reads_at
  rfl
/-- The block decay, spread over a head's columns. -/
theorem r_v69 (e : Fin 4096) : after hostOps0_6 V (Proc.devRef .tc main_v69) (ix2 0 e) = V (Proc.devRef .tc main_v51) (ix2 0 (Spec.hd e)) := by
  after_reads_at
  rfl
/-- The norm weights, repeated for each head. -/
theorem r_v73 (e : Fin 4096) : after hostOps0_6 V (Proc.devRef .tc main_v73) (ix2 0 e) = V (Proc.devRef .tc main_arg6) (ix1 ⟨e.val % 128, by omega⟩) := by
  after_reads_at
/-- The wide projection, split by batch. -/
theorem r_v76 (b : Fin 2) (s : Fin 4096) (e : Fin 8192) : after hostOps2 V (Proc.devRef .tc main_v76) (ix3 b s e) = V (Proc.devRef .tc main_v75) (ix2 ⟨b.val * 4096 + s.val, by omega⟩ e) := by
  after_reads_at
/-- The narrow projections, split by batch. -/
theorem r_v77 (b : Fin 2) (s : Fin 4096) (e : Fin 64) : after hostOps2 V (Proc.devRef .tc main_v77) (ix3 b s e) = V (Proc.devRef .tc main_v74_0) (ix2 ⟨b.val * 4096 + s.val, by omega⟩ e) := by
  after_reads_at
/-- The scan's output, flattened over the batch. -/
theorem r_v79 (r : Fin 8192) (e : Fin 4096) : after hostOps3 V (Proc.devRef .tc main_v79) (ix2 r e) = V (Proc.devRef .tc main_v78) (ix3 ⟨r.val / 4096, by omega⟩ ⟨r.val % 4096, by omega⟩ e) := by
  after_reads_at
/-- The result, split by batch. -/
theorem r_v81 (b : Fin 2) (s : Fin 4096) (e : Fin 2560) : after hostOps4 V (Proc.devRef .tc main_v81) (ix3 b s e) = V (Proc.devRef .tc main_v80) (ix2 ⟨b.val * 4096 + s.val, by omega⟩ e) := by
  after_reads_at

/-! The whole prefix, over the launch contents. -/

/-- The argument arrays of a valuation, by coordinates. -/
def argsOf (V : Valuation τ sig (Elt Ideal)) : Spec.Args where
  hid b s k := V (Proc.devRef .tc main_arg0) (ix3 b s k)
  wqkv e k := V (Proc.devRef .tc main_arg1) (ix2 e k)
  wb e k := V (Proc.devRef .tc main_arg2) (ix2 e k)
  wa e k := V (Proc.devRef .tc main_arg3) (ix2 e k)
  cw e k := V (Proc.devRef .tc main_arg4) (ix3 e 0 k)
  wo e k := V (Proc.devRef .tc main_arg5) (ix2 e k)
  nw d := V (Proc.devRef .tc main_arg6) (ix1 d)
  al n := V (Proc.devRef .tc main_arg7) (ix1 n)
  db n := V (Proc.devRef .tc main_arg8) (ix1 n)

def P1 := after hostOps0 V
def P2 := after hostOps0_1 (P1 V)
def P3 := after hostOps0_2 (P2 V)
def P4 := after hostOps0_3 (P3 V)
def P5 := after hostOps0_4 (P4 V)
def P6 := after hostOps0_5 (P5 V)
def P7 := after hostOps0_6 (P6 V)
/-- A leading stretch keeps what it does not write. -/
theorem k1 (r : Ref sig .tc) (h : r ∉ hostOps0_W) : P1 V (Proc.devRef .tc r) = V (Proc.devRef .tc r) := after_of_writes_sub hostOps0 _ hostOps0_writes h
/-- A leading stretch keeps what it does not write. -/
theorem k2 (r : Ref sig .tc) (h : r ∉ hostOps0_1_W) : P2 V (Proc.devRef .tc r) = P1 V (Proc.devRef .tc r) := after_of_writes_sub hostOps0_1 _ hostOps0_1_writes h
/-- A leading stretch keeps what it does not write. -/
theorem k3 (r : Ref sig .tc) (h : r ∉ hostOps0_2_W) : P3 V (Proc.devRef .tc r) = P2 V (Proc.devRef .tc r) := after_of_writes_sub hostOps0_2 _ hostOps0_2_writes h
/-- A leading stretch keeps what it does not write. -/
theorem k4 (r : Ref sig .tc) (h : r ∉ hostOps0_3_W) : P4 V (Proc.devRef .tc r) = P3 V (Proc.devRef .tc r) := after_of_writes_sub hostOps0_3 _ hostOps0_3_writes h
/-- A leading stretch keeps what it does not write. -/
theorem k5 (r : Ref sig .tc) (h : r ∉ hostOps0_4_W) : P5 V (Proc.devRef .tc r) = P4 V (Proc.devRef .tc r) := after_of_writes_sub hostOps0_4 _ hostOps0_4_writes h
/-- A leading stretch keeps what it does not write. -/
theorem k6 (r : Ref sig .tc) (h : r ∉ hostOps0_5_W) : P6 V (Proc.devRef .tc r) = P5 V (Proc.devRef .tc r) := after_of_writes_sub hostOps0_5 _ hostOps0_5_writes h
/-- A leading stretch keeps what it does not write. -/
theorem k7 (r : Ref sig .tc) (h : r ∉ hostOps0_6_W) : P7 V (Proc.devRef .tc r) = P6 V (Proc.devRef .tc r) := after_of_writes_sub hostOps0_6 _ hostOps0_6_writes h

/-- From the launch contents: the hidden states. -/
theorem e_arg0 (r : Fin 8192) (k : Fin 2560) : P7 V (Proc.devRef .tc main_v0) (ix2 r k) = (argsOf V).hid ⟨r.val / 4096, by omega⟩ ⟨r.val % 4096, by omega⟩ k := by
  rw [k7 V main_v0 (by decide), k6 V main_v0 (by decide), k5 V main_v0 (by decide), k4 V main_v0 (by decide), k3 V main_v0 (by decide), k2 V main_v0 (by decide)]
  exact r_v0 V r k
/-- From the launch contents: the wide projection's weights. -/
theorem e_wqkv (r : Fin 8192) (k : Fin 2560) : P7 V (Proc.devRef .tc main_v1) (ix2 r k) = (argsOf V).wqkv r k := by
  rw [k7 V main_v1 (by decide), k6 V main_v1 (by decide), k5 V main_v1 (by decide), k4 V main_v1 (by decide), k3 V main_v1 (by decide), k2 V main_v1 (by decide)]
  exact r_v1 V r k
/-- From the launch contents: the first narrow weights. -/
theorem e_wb (n : Fin 32) (k : Fin 2560) : P7 V (Proc.devRef .tc main_v2) (ix2 ⟨n.val, by omega⟩ k) = (argsOf V).wb n k := by
  rw [k7 V main_v2 (by decide), k6 V main_v2 (by decide), k5 V main_v2 (by decide), k4 V main_v2 (by decide), k3 V main_v2 (by decide), k2 V main_v2 (by decide)]
  exact r_v2b V n k
/-- From the launch contents: the second narrow weights. -/
theorem e_wa (n : Fin 32) (k : Fin 2560) : P7 V (Proc.devRef .tc main_v2) (ix2 ⟨32 + n.val, by omega⟩ k) = (argsOf V).wa n k := by
  rw [k7 V main_v2 (by decide), k6 V main_v2 (by decide), k5 V main_v2 (by decide), k4 V main_v2 (by decide), k3 V main_v2 (by decide), k2 V main_v2 (by decide)]
  exact r_v2a V n k
/-- From the launch contents: the output projection's weights. -/
theorem e_wo (r : Fin 2560) (k : Fin 4096) : P7 V (Proc.devRef .tc main_v3) (ix2 r k) = (argsOf V).wo r k := by
  rw [k7 V main_v3 (by decide), k6 V main_v3 (by decide), k5 V main_v3 (by decide), k4 V main_v3 (by decide), k3 V main_v3 (by decide), k2 V main_v3 (by decide)]
  exact r_v3 V r k
/-- From the launch contents: the step size. -/
theorem e_dt2 (n : Fin 32) : P2 V (Proc.devRef .tc main_v4) (ix1 n) = Spec.dt (argsOf V) n := by
  refine (r_v4 _ n).trans ?_
  rw [k1 V main_arg8 (by decide)]
  rfl
/-- From the launch contents: the step size, two stretches later. -/
theorem e_dt4 (n : Fin 32) : P4 V (Proc.devRef .tc main_v4) (ix1 n) = Spec.dt (argsOf V) n := by
  rw [k4 V main_v4 (by decide), k3 V main_v4 (by decide)]
  exact e_dt2 V n
/-- The decay's exponent, as the second stretch has it. -/
theorem e_ldOf (n : Fin 32) : ldOf (P2 V (Proc.devRef .tc main_v4) (ix1 n)) (P2 V (Proc.devRef .tc main_arg7) (ix1 n)) = Spec.ld (argsOf V) n := by
  rw [e_dt2, k2 V main_arg7 (by decide), k1 V main_arg7 (by decide)]
  rfl
/-- From the launch contents: the decay's exponent. -/
theorem e_ld4 (n : Fin 32) : P4 V (Proc.devRef .tc main_v7) (ix1 n) = Spec.ld (argsOf V) n := by
  rw [k4 V main_v7 (by decide)]
  exact (r_v7 _ n).trans (e_ldOf V n)
/-- From the launch contents: the counter of steps. -/
theorem e_iota4 (i : Fin 256) : P4 V (Proc.devRef .tc main_v8) (ix1 i) = ((i.val : ℝ) : EReal) := by
  rw [k4 V main_v8 (by decide)]
  exact r_v8 _ i
/-- From the launch contents: the masked decay powers. -/
theorem e_tri (n : Fin 32) (i j : Fin 256) : P4 V (Proc.devRef .tc main_v22) (ix3 n i j) = if j.val ≤ i.val then Spec.pw (Spec.ld (argsOf V) n) (i.val - j.val) else 0 := by
  refine (r_v22 _ n i j).trans ?_
  have h15 := r_v15 (P2 V) i j
  have h0 := r_cst (P2 V)
  by_cases h : j.val ≤ i.val
  · rw [if_pos h] at h15 ⊢
    have h21 := (r_v21 (P2 V) n i j h).trans (congrArg (fun l => Spec.pw l _) (e_ldOf V n))
    show Scalar.select (after hostOps0_2 (P2 V) (Proc.devRef .tc main_v15) (ix2 i j)) _ _ = _
    rw [h15]
    exact h21
  · rw [if_neg h] at h15 ⊢
    show Scalar.select (after hostOps0_2 (P2 V) (Proc.devRef .tc main_v15) (ix2 i j)) _ _ = _
    rw [h15]
    exact h0
/-- The chunk's matrix: the decay between two rows times the step, at and below the diagonal. -/
theorem e_T (n : Fin 32) (i j : Fin 256) : P7 V (Proc.devRef .tc main_v39) (ix3 n ⟨i.val, by omega⟩ j)
    = (if j.val ≤ i.val then Spec.pw (Spec.ld (argsOf V) n) (i.val - j.val) else 0) * Spec.dt (argsOf V) n := by
  rw [k7 V main_v39 (by decide), k6 V main_v39 (by decide)]
  refine (r_v39 _ n i j).trans ?_
  rw [e_tri, e_dt4]
  rfl
/-- From the launch contents: the operator's row for the state. -/
theorem e_w (n : Fin 32) (j : Fin 256) : P7 V (Proc.devRef .tc main_v39) (ix3 n ⟨256, by omega⟩ j)
    = Spec.dt (argsOf V) n * Spec.pw (Spec.ld (argsOf V) n) (255 - j.val) := by
  rw [k7 V main_v39 (by decide), k6 V main_v39 (by decide)]
  refine (r_v39w _ n j).trans ?_
  rw [e_dt4, e_ld4, e_iota4]
  unfold wst Spec.pw
  rw [Spec.c255, ← EReal.coe_sub, show ((255 : ℝ) - (j.val : ℝ)) = ((255 - j.val : ℕ) : ℝ) from by rw [Nat.cast_sub (by omega)]; norm_num]
/-- From the launch contents: the convolution weights. -/
theorem e_cw (k : Fin 4) (e : Fin 8192) : P7 V (Proc.devRef .tc main_v53) (ix2 k e) = (argsOf V).cw e k := by
  rw [k7 V main_v53 (by decide), k6 V main_v53 (by decide)]
  refine (r_v53 _ k e).trans ?_
  rw [k4 V main_arg4 (by decide), k3 V main_arg4 (by decide), k2 V main_arg4 (by decide), k1 V main_arg4 (by decide)]
  rfl
/-- From the launch contents: the head of a column. -/
theorem e_head (e : Fin 4096) : P6 V (Proc.devRef .tc main_v55) (ix1 e) = (BitVec.ofNat 32 (e.val / 128) : BitVec 32) := by
  refine (r_v55 _ e).trans ?_
  refine (congrArg₂ headW (r_v54 _ e) (r_c _)).trans (headW_eq e)
/-- One exactly at the column's head. -/
theorem hot_hd (n : Fin 32) (e : Fin 4096) : hot n.val (e.val / 128) = if n = Spec.hd e then 1 else 0 := by
  unfold hot
  exact if_congr ⟨fun h => Fin.ext h, fun h => congrArg Fin.val h⟩ rfl rfl
/-- From the launch contents: the head selector. -/
theorem e_sgt (n : Fin 32) (e : Fin 4096) : P7 V (Proc.devRef .tc main_v62) (ix2 n e) = if n = Spec.hd e then (1 : EReal) else 0 :=
  (r_v62 _ n e (e.val / 128) (by omega) (e_head V e)).trans (hot_hd n e)
/-- From the launch contents: the head averaging matrix. -/
theorem e_sgn (n : Fin 32) (e : Fin 4096) : P7 V (Proc.devRef .tc main_v65) (ix2 e n) = Ideal.div (if n = Spec.hd e then (1 : EReal) else 0) (Ideal.ofBits .f32 0x43000000#32) :=
  (r_v65 _ n e (e.val / 128) (by omega) (e_head V e)).trans (by rw [hot_hd])
/-- From the launch contents: the decay powers for the incoming state. -/
theorem e_ape (i : Fin 256) (e : Fin 4096) : P7 V (Proc.devRef .tc main_v67) (ix2 i e) = Spec.pw (Spec.ld (argsOf V) (Spec.hd e)) (i.val + 1) := by
  refine (r_v67 _ i e).trans ?_
  rw [k6 V main_v47 (by decide)]
  refine (r_v47 _ i _).trans ?_
  rw [e_ld4, e_iota4]
  unfold apw Spec.pw
  rw [← EReal.coe_one, ← EReal.coe_add, Nat.cast_add, Nat.cast_one]
/-- From the launch contents: the decay over a block. -/
theorem e_daq (e : Fin 4096) : P7 V (Proc.devRef .tc main_v69) (ix2 0 e) = Spec.pw (Spec.ld (argsOf V) (Spec.hd e)) 256 := by
  refine (r_v69 _ e).trans ?_
  rw [k6 V main_v51 (by decide)]
  refine (r_v51 _ _).trans ?_
  rw [e_ld4]
  unfold qpw Spec.pw
  rw [Spec.c256]
  norm_num
/-- From the launch contents: the norm weights. -/
theorem e_nw (e : Fin 4096) : P7 V (Proc.devRef .tc main_v73) (ix2 0 e) = (argsOf V).nw ⟨e.val % 128, by omega⟩ := by
  refine (r_v73 _ e).trans ?_
  rw [k6 V main_arg6 (by decide), k5 V main_arg6 (by decide), k4 V main_arg6 (by decide), k3 V main_arg6 (by decide), k2 V main_arg6 (by decide), k1 V main_arg6 (by decide)]
  rfl

end Cert.KernelIdeal.Pre

end
-- ==== Proof.Dense.lean ====
module

public import proofs.«01_k».proof.Proof.Bc
public import proofs.«01_k».proof.Proof.Proj
public import proofs.«01_k».proof.Proof.Out
public import Idealize.ShloMosaic.Lib.Pipeline.ValueKit
public import Idealize.ShloMosaic.Lib.Pointwise.Tactic
public import Idealize.ShloMosaic.Lib.MatmulPlain

/-! What the three dense calls leave in their output arrays, over the extended reals. -/

@[expose] public section

set_option maxRecDepth 16384
set_option maxHeartbeats 1000000

noncomputable section

namespace Cert.KernelIdeal.Dense

open Cert.KernelIdeal Cert.KernelIdeal.Gen
open Idealize.ShloMosaic Idealize.ShloMosaic.TcCoe Idealize.ShloMosaic.Tactic
open Idealize.SL Idealize.SL.RA
open Idealize.ShloMosaic.Pipeline (Dat Cfg Window)

variable (W : Dev nD → Valuation τ sig (Elt Ideal)) (c : Dev nD)

/-- Rows times rows: the product of a matrix with the transpose of another. -/
def rows {M N K : ℕ} (x : (⟨2, ![M, K]⟩ : Shape).Idx → EReal) (w : (⟨2, ![N, K]⟩ : Shape).Idx → EReal) :
    (⟨2, ![M, N]⟩ : Shape).Idx → EReal := fun j => ∑ k : Fin K, x (ix2 (j 0) k) * w (ix2 (j 1) k)

/-- A sum of products whose factors are an entry of each matrix's row is an entry of the product. -/
theorem rows_of {M N K : ℕ} (x : (⟨2, ![M, K]⟩ : Shape).Idx → EReal) (w : (⟨2, ![N, K]⟩ : Shape).Idx → EReal) (j : (⟨2, ![M, N]⟩ : Shape).Idx)
    (a b : Fin K → EReal) (ha : ∀ k, a k = x (ix2 (j 0) k)) (hb : ∀ k, b k = w (ix2 (j 1) k)) : ∑ k : Fin K, a k * b k = rows x w j :=
  Finset.sum_congr rfl fun k _ => by rw [ha, hb]

/-- Which block each point of call 0 takes of array 0. -/
theorem i0_0 : ∀ t : Fin cfg0.N, win0_0.index t = ![(grid0.coords t 0).val, 0] := by decide +kernel
/-- Which block each point of call 0 takes of array 1. -/
theorem i0_1 : ∀ t : Fin cfg0.N, win0_1.index t = ![0, 0] := by decide +kernel
/-- Which block each point of call 0 takes of array 2. -/
theorem i0_2 : ∀ t : Fin cfg0.N, win0_2.index t = ![(grid0.coords t 0).val, 0] := by decide +kernel
/-- Which block each point of call 0 takes of array 3. -/
theorem i0_3 : ∀ t : Fin cfg0.N, win0_3.index t = ![(grid0.coords t 0).val, 0] := by decide +kernel
/-- Which block each point of call 1 takes of array 0. -/
theorem i1_0 : ∀ t : Fin cfg1.N, win1_0.index t = ![(grid1.coords t 0).val, 0] := by decide +kernel
/-- Which block each point of call 1 takes of array 1. -/
theorem i1_1 : ∀ t : Fin cfg1.N, win1_1.index t = ![(grid1.coords t 1).val, 0] := by decide +kernel
/-- Which block each point of call 1 takes of array 2. -/
theorem i1_2 : ∀ t : Fin cfg1.N, win1_2.index t = ![(grid1.coords t 0).val, (grid1.coords t 1).val] := by decide +kernel
/-- Which block each point of call 3 takes of array 0. -/
theorem i3_0 : ∀ t : Fin cfg3.N, win3_0.index t = ![(grid3.coords t 1).val, 0] := by decide +kernel
/-- Which block each point of call 3 takes of array 1. -/
theorem i3_1 : ∀ t : Fin cfg3.N, win3_1.index t = ![(grid3.coords t 0).val, 0] := by decide +kernel
/-- Which block each point of call 3 takes of array 2. -/
theorem i3_2 : ∀ t : Fin cfg3.N, win3_2.index t = ![(grid3.coords t 1).val, (grid3.coords t 0).val] := by decide +kernel

/-! ## The bodies' products, at an element of a block -/

/-- The first call's narrow product, at an entry. -/
theorem k0_pay2_apply (x : Vec Ideal S1024x2560 .f32) (w : Vec Ideal S64x2560 .f32) (y : S1024x64.Idx) :
    k0_pay2 x w y = ∑ k : Fin 2560, x (ix2 (y 0) k) * w (ix2 (y 1) k) := by
  unfold k0_pay2 k0_pay1
  idx_vars y
  pointwise

/-- The first call's copy, at an entry. -/
theorem k0_pay3_apply (x : Vec Ideal S1024x2560 .f32) (y : S1024x2560.Idx) : k0_pay3 x y = x y := by
  unfold k0_pay3 k0_pay1
  idx_vars y
  pointwise

/-- The second call's product, at an entry. -/
theorem k1_pay1_apply (x : Vec Ideal S2048x2560 .bf16) (w : Vec Ideal S1024x2560 .bf16) (y : S2048x1024.Idx) :
    k1_pay1 x w y = ∑ k : Fin 2560, x (ix2 (y 0) k) * w (ix2 (y 1) k) := by
  unfold k1_pay1
  idx_vars y
  pointwise

/-- The last call's product, at an entry. -/
theorem k3_pay1_apply (x : Vec Ideal S1024x4096 .bf16) (w : Vec Ideal S1280x4096 .bf16) (y : S1024x1280.Idx) :
    k3_pay1 x w y = ∑ k : Fin 4096, x (ix2 (y 0) k) * w (ix2 (y 1) k) := by
  unfold k3_pay1
  idx_vars y
  pointwise

/-! ## The calls' output arrays -/

/-- After the first call its narrow output is the input's rows times the joined weights' rows. -/
theorem bc_val : (Bc.dat W c).arrAt 2 cfg0.N = rows (W c (Proc.devRef .tc main_v0)) (W c (Proc.devRef .tc main_v2)) := by
  refine (Bc.dat W c).arrAt_eq_of_covers 2 _ (by decide +kernel) fun t hf y => ?_
  blk_simp
  rw [Bc.after0_2]
  unfold Bc.out0_2
  frame_out
  rw [k0_pay2_apply]
  refine rows_of _ _ _ _ _ (fun k => ?_) (fun k => ?_)
  · blk_simp [Bc.iblk]
    refine congrArg _ ?_
    blk_ext [i0_0, i0_2]
  · blk_simp [Bc.iblk]
    refine congrArg _ ?_
    blk_ext [i0_1, i0_2]

/-- After the first call its wide output is the input itself. -/
theorem hs_val : (Bc.dat W c).arrAt 3 cfg0.N = (W c (Proc.devRef .tc main_v0) : S8192x2560.Idx → EReal) := by
  refine (Bc.dat W c).arrAt_eq_of_covers 3 _ (by decide +kernel) fun t hf y => ?_
  blk_simp
  rw [Bc.after0_3]
  unfold Bc.out0_3
  frame_out
  rw [k0_pay3_apply]
  blk_simp [Bc.iblk]
  refine congrArg _ ?_
  blk_ext [i0_0, i0_3]

/-- After the second call its output is the staged input's rows times the weights' rows. -/
theorem xz_val : (Proj.dat W c).arrAt 2 cfg1.N = rows (W c (Proc.devRef .tc main_v74_1)) (W c (Proc.devRef .tc main_v1)) := by
  refine (Proj.dat W c).arrAt_eq_of_covers 2 _ (by decide +kernel) fun t hf y => ?_
  blk_simp
  rw [Proj.after0_2]
  unfold Proj.out0_2
  frame_out
  rw [k1_pay1_apply]
  refine rows_of _ _ _ _ _ (fun k => ?_) (fun k => ?_)
  · blk_simp [Proj.iblk]
    refine congrArg _ ?_
    blk_ext [i1_0, i1_2]
  · blk_simp [Proj.iblk]
    refine congrArg _ ?_
    blk_ext [i1_1, i1_2]

/-- After the last call its output is the gated rows times the output weights' rows. -/
theorem out_val : (Out.dat W c).arrAt 2 cfg3.N = rows (W c (Proc.devRef .tc main_v79)) (W c (Proc.devRef .tc main_v3)) := by
  refine (Out.dat W c).arrAt_eq_of_covers 2 _ (by decide +kernel) fun t hf y => ?_
  blk_simp
  rw [Out.after0_2]
  unfold Out.out0_2
  frame_out
  rw [k3_pay1_apply]
  refine rows_of _ _ _ _ _ (fun k => ?_) (fun k => ?_)
  · blk_simp [Out.iblk]
    refine congrArg _ ?_
    blk_ext [i3_0, i3_2]
  · blk_simp [Out.iblk]
    refine congrArg _ ?_
    blk_ext [i3_1, i3_2]

end Cert.KernelIdeal.Dense

end
-- ==== Proof.ScanKit.lean ====
module

public import proofs.«01_k».proof.Proof.Scan
public import Idealize.ShloMosaic.Lib.Pipeline.ValueKit
public import Idealize.ShloMosaic.Lib.Pipeline.ReadBack
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000

section
variable {Val : EltTy → Type} {s : Shape} {e : EltTy}

/-- Loading the rectangle the newest piece wrote gives that piece back. -/
theorem ld_canon [∀ e, Nonempty (Val e)] (r : Rect s) (w : r.shape.Idx → Val e) (L : List (View.Piece Val s e)) :
    View.ld (View.canon (⟨r, w⟩ :: L)) r = w :=
  funext fun x => View.canon_cons_emb r w L x

/-- Reading back the piece written last gives what was written. -/
theorem ld_writes {sig : RefSig} {κ : Kind} {sp : Space} (v : View sig κ sp s e) (f : v.ty.Contents Val) (r : Rect s)
    (w : r.shape.Idx → Val e) (L : List (View.Piece Val s e)) :
    View.ld (v.read Val (v.writes Val f (⟨r, w⟩ :: L))) r = w :=
  funext fun x => View.read_writes_cons_emb v f r w L x
end

/-- The first row of the state scratch. -/
abbrev row0 (h : Vec F S8x4096 .f32) : Vec F S1x4096 .f32 :=
  View.ld h (Rect.unit (s := S8x4096) ![0, 0] S1x4096.size inb_S8x4096_S1x4096_0_0)

/-- The first three rows of the scratch that carries the convolution's tail. -/
abbrev rows3 (p : Vec F S8x8192 .f32) : Vec F S3x8192 .f32 :=
  View.ld p (Rect.unit (s := S8x8192) ![0, 0] S3x8192.size inb_S8x8192_S3x8192_0_0)

/-- The state row is what was written to it last. -/
theorem row0_canon (w : Vec F S1x4096 .f32) (L) :
    row0 (View.canon ((⟨Rect.unit ![0, 0] ![1, 4096] inb_S8x4096_S1x4096_0_0, w⟩ : View.Piece (Elt F) S8x4096 .f32) :: L)) = w :=
  ld_canon (Val := Elt F) (Rect.unit (s := S8x4096) ![0, 0] S1x4096.size inb_S8x4096_S1x4096_0_0) w L

/-- The tail rows are what was written to them last. -/
theorem rows3_canon (w : Vec F S3x8192 .f32) (L) :
    rows3 (View.canon ((⟨Rect.unit ![0, 0] ![3, 8192] inb_S8x8192_S3x8192_0_0, w⟩ : View.Piece (Elt F) S8x8192 .f32) :: L)) = w :=
  ld_canon (Val := Elt F) (Rect.unit (s := S8x8192) ![0, 0] S3x8192.size inb_S8x8192_S3x8192_0_0) w L

/-- The state row read after a write to it. -/
theorem row0_writes {sp : Space} (v : View sig .tc sp S8x4096 .f32) (f) (w : Vec F S1x4096 .f32) (L) :
    row0 (v.read (Elt F) (v.writes (Elt F) f ((⟨Rect.unit ![0, 0] ![1, 4096] inb_S8x4096_S1x4096_0_0, w⟩ : View.Piece (Elt F) S8x4096 .f32) :: L))) = w :=
  ld_writes (Val := Elt F) v f (Rect.unit (s := S8x4096) ![0, 0] S1x4096.size inb_S8x4096_S1x4096_0_0) w L

/-- The tail rows read after a write to them. -/
theorem rows3_writes {sp : Space} (v : View sig .tc sp S8x8192 .f32) (f) (w : Vec F S3x8192 .f32) (L) :
    rows3 (v.read (Elt F) (v.writes (Elt F) f ((⟨Rect.unit ![0, 0] ![3, 8192] inb_S8x8192_S3x8192_0_0, w⟩ : View.Piece (Elt F) S8x8192 .f32) :: L))) = w :=
  ld_writes (Val := Elt F) v f (Rect.unit (s := S8x8192) ![0, 0] S3x8192.size inb_S8x8192_S3x8192_0_0) w L

/-- The state row read after the whole scratch was filled. -/
theorem row0_fill {sp : Space} (v : View sig .tc sp S8x4096 .f32) (z : Vec F S8x4096 .f32) :
    v.readCov [(⟨Rect.unit ![0, 0] ![8, 4096] inb_S8x4096_S8x4096_0_0, z⟩ : View.Piece (Elt F) S8x4096 .f32)]
      (Rect.unit ![0, 0] ![1, 4096] inb_S8x4096_S1x4096_0_0).toLoadRect = row0 z :=
  View.readCov_fill v inb_S8x4096_S8x4096_0_0 z [] (Rect.unit (s := S8x4096) ![0, 0] S1x4096.size inb_S8x4096_S1x4096_0_0) (by decide)

/-- The tail rows read after the whole scratch was filled. -/
theorem rows3_fill {sp : Space} (v : View sig .tc sp S8x8192 .f32) (z : Vec F S8x8192 .f32) :
    v.readCov [(⟨Rect.unit ![0, 0] ![8, 8192] inb_S8x8192_S8x8192_0_0, z⟩ : View.Piece (Elt F) S8x8192 .f32)]
      (Rect.unit ![0, 0] ![3, 8192] inb_S8x8192_S3x8192_0_0).toLoadRect = rows3 z :=
  View.readCov_fill v inb_S8x8192_S8x8192_0_0 z [] (Rect.unit (s := S8x8192) ![0, 0] S3x8192.size inb_S8x8192_S3x8192_0_0) (by decide)

/-- The block of the operator array that belongs to head group `g`. -/
def blkT (t : Vec F S32x264x256 .f32) (g : Fin 32) : Vec F S1x264x256 .f32 :=
  View.ld t (Rect.unit (s := S32x264x256) ![g.val, 0, 0] S1x264x256.size
    (fun a => by have := g.isLt; match a with
      | ⟨0, _⟩ => show g.val + 1 ≤ 32; omega
      | ⟨1, _⟩ => show 0 + 264 ≤ 264; omega
      | ⟨2, _⟩ => show 0 + 256 ≤ 256; omega))

/-- A head's columns lie within a block of rows. -/
theorem slices_group (g : Fin 32) : S256x4096.Slices ![0, 128 * g.val] S256x128 :=
  ⟨rfl, fun a => by have := g.isLt; match a with
      | ⟨0, _⟩ => show 0 + 256 ≤ 256; omega
      | ⟨1, _⟩ => show 128 * g.val + 128 ≤ 4096; omega⟩

/-- The product of group `g`'s operator block with that group's lanes of `u`. -/
def dotG (u : FVec F S256x4096 .f32) (t : Vec F S32x264x256 .f32) (g : Fin 32) : FVec F S264x128 .f32 :=
  matmul dot_S264x256_S256x128_S264x128_1_0_0_1_n_n none (shapeCast S264x256 (blkT t g) shapeCasts_S1x264x256_S264x256)
    (extractStridedSlice S256x128 ![0, 128 * g.val] u (slices_group g)) (constant S264x128 .f32 0x00000000#32)

/-- Rows 0 to 255 of that product. -/
def yG (u : FVec F S256x4096 .f32) (t : Vec F S32x264x256 .f32) (g : Fin 32) : FVec F S256x128 .f32 :=
  extractStridedSlice S256x128 ![0, 0] (dotG u t g) slices_S264x128_o0_0_S256x128

/-- Row 256 of that product. -/
def rG (u : FVec F S256x4096 .f32) (t : Vec F S32x264x256 .f32) (g : Fin 32) : FVec F S1x128 .f32 :=
  extractStridedSlice S1x128 ![256, 0] (dotG u t g) slices_S264x128_o256_0_S1x128

/-- The groups' rows side by side. -/
def yCat (u : FVec F S256x4096 .f32) (t : Vec F S32x264x256 .f32) : FVec F S256x4096 .f32 :=
  concatenate S256x4096 1 (List.ofFn fun g : Fin 32 => (⟨S256x128, yG u t g⟩ : (s : Shape) × (s.Idx → F .f32)))
    concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x4096_d1

/-- The groups' state rows side by side. -/
def rCat (u : FVec F S256x4096 .f32) (t : Vec F S32x264x256 .f32) : FVec F S1x4096 .f32 :=
  concatenate S1x4096 1 (List.ofFn fun g : Fin 32 => (⟨S1x128, rG u t g⟩ : (s : Shape) × (s.Idx → F .f32)))
    concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x4096_d1

/-- The driven input of the step. -/
def uF (xs : FVec F S256x8192 .f32) (x1 : Vec F S1x256x64 .f32) (x3 : Vec F S32x4096 .f32) : FVec F S256x4096 .f32 :=
  k2_pay11 xs (k2_pay8 x3) (k2_pay9 x1)

/-- The step's output before normalisation. -/
def yF (xs : FVec F S256x8192 .f32) (x1 : Vec F S1x256x64 .f32) (x2 : Vec F S32x264x256 .f32) (x3 : Vec F S32x4096 .f32)
    (x5 : Vec F S256x4096 .f32) (h : Vec F S1x4096 .f32) : FVec F S256x4096 .f32 :=
  mulf (k2_pay10 (k2_pay7 x1) (k2_pay8 x3))
    (addf (yCat (uF xs x1 x3) x2)
      (mulf (shapeCast S256x4096 x5 shapeCasts_S256x4096_S256x4096) (broadcastTo S256x4096 h broadcasts_S1x4096_S256x4096)))

/-- The state the step leaves. -/
def hF (xs : FVec F S256x8192 .f32) (x1 : Vec F S1x256x64 .f32) (x2 : Vec F S32x264x256 .f32) (x3 : Vec F S32x4096 .f32)
    (x6 : Vec F S1x4096 .f32) (h : Vec F S1x4096 .f32) : FVec F S1x4096 .f32 :=
  shapeCast S1x4096 (addf (mulf (shapeCast S1x4096 x6 shapeCasts_S1x4096_S1x4096) h)
    (rCat (uF xs x1 x3) x2)) shapeCasts_S1x4096_S1x4096

/-- The mean squares of the step's output. -/
def msF (y : FVec F S256x4096 .f32) (x4 : Vec F S4096x32 .f32) : FVec F S256x32 .f32 :=
  matmul dot_S256x4096_S4096x32_S256x32_1_0_0_1_n_n none (mulf y y) (shapeCast S4096x32 x4 shapeCasts_S4096x32_S4096x32)
    (constant S256x32 .f32 0x00000000#32)

/-- The block the step writes out. -/
def oF (xs : FVec F S256x8192 .f32) (x1 : Vec F S1x256x64 .f32) (x2 : Vec F S32x264x256 .f32) (x3 : Vec F S32x4096 .f32)
    (x4 : Vec F S4096x32 .f32) (x5 : Vec F S256x4096 .f32) (x8 : Vec F S1x4096 .f32) (h : Vec F S1x4096 .f32) : FVec F S1x256x4096 .bf16 :=
  k2_pay1 xs (k2_pay8 x3) (yF xs x1 x2 x3 x5 h) (msF (yF xs x1 x2 x3 x5 h) x4) (Scalar.ofBits .f32 0x358637BD#32) x8

end Cert.KernelIdeal.Scan

end
-- ==== Proof.ScanStepA.lean ====
module

public import proofs.«01_k».proof.Proof.ScanKit
public import Idealize.ShloMosaic.Lib.Pipeline.ValueKit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000

/-- What the point writes out, as a step over its blocks and the carried rows. -/
theorem out_A_eq (c : Dev nD) (i : grid2.Coords) (arg2 : Memref sig .tc .vmem S1x256x8192 .bf16) (harg2 : arg2.IsWhole) (arg3 : Memref sig .tc .vmem S1x256x64 .f32) (harg3 : arg3.IsWhole) (arg4 : Memref sig .tc .vmem S32x264x256 .f32) (harg4 : arg4.IsWhole) (arg5 : Memref sig .tc .vmem S32x4096 .f32) (harg5 : arg5.IsWhole) (arg6 : Memref sig .tc .vmem S4096x32 .f32) (harg6 : arg6.IsWhole) (arg7 : Memref sig .tc .vmem S256x4096 .f32) (harg7 : arg7.IsWhole) (arg8 : Memref sig .tc .vmem S1x4096 .f32) (harg8 : arg8.IsWhole) (arg9 : Memref sig .tc .vmem S4x8192 .f32) (harg9 : arg9.IsWhole) (arg10 : Memref sig .tc .vmem S1x4096 .f32) (harg10 : arg10.IsWhole) (arg11 : Memref sig .tc .vmem S1x256x4096 .bf16) (harg11 : arg11.IsWhole) (arg12 : Memref sig .tc .vmem S8x4096 .f32) (harg12 : arg12.IsWhole) (arg13 : Memref sig .tc .vmem S8x8192 .f32) (harg13 : arg13.IsWhole) (hc0 : cond_0 i)
    (x0 : Vec F S1x256x8192 .bf16) (x1 : Vec F S1x256x64 .f32) (x2 : Vec F S32x264x256 .f32) (x3 : Vec F S32x4096 .f32) (x4 : Vec F S4096x32 .f32) (x5 : Vec F S256x4096 .f32) (x6 : Vec F S1x4096 .f32) (x7 : Vec F S4x8192 .f32) (x8 : Vec F S1x4096 .f32)  :
    out_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = oF (k2_pay6 x0 (rows3 k2_pay3) x7) x1 x2 x3 x4 x5 x8 (row0 k2_pay2) := by
  frame_out
  simp only [row0_fill, rows3_fill]
  rfl

/-- The state row the point leaves. -/
theorem sout_A0_row (c : Dev nD) (i : grid2.Coords) (arg2 : Memref sig .tc .vmem S1x256x8192 .bf16) (harg2 : arg2.IsWhole) (arg3 : Memref sig .tc .vmem S1x256x64 .f32) (harg3 : arg3.IsWhole) (arg4 : Memref sig .tc .vmem S32x264x256 .f32) (harg4 : arg4.IsWhole) (arg5 : Memref sig .tc .vmem S32x4096 .f32) (harg5 : arg5.IsWhole) (arg6 : Memref sig .tc .vmem S4096x32 .f32) (harg6 : arg6.IsWhole) (arg7 : Memref sig .tc .vmem S256x4096 .f32) (harg7 : arg7.IsWhole) (arg8 : Memref sig .tc .vmem S1x4096 .f32) (harg8 : arg8.IsWhole) (arg9 : Memref sig .tc .vmem S4x8192 .f32) (harg9 : arg9.IsWhole) (arg10 : Memref sig .tc .vmem S1x4096 .f32) (harg10 : arg10.IsWhole) (arg11 : Memref sig .tc .vmem S1x256x4096 .bf16) (harg11 : arg11.IsWhole) (arg12 : Memref sig .tc .vmem S8x4096 .f32) (harg12 : arg12.IsWhole) (arg13 : Memref sig .tc .vmem S8x8192 .f32) (harg13 : arg13.IsWhole) (hc0 : cond_0 i)
    (x0 : Vec F S1x256x8192 .bf16) (x1 : Vec F S1x256x64 .f32) (x2 : Vec F S32x264x256 .f32) (x3 : Vec F S32x4096 .f32) (x4 : Vec F S4096x32 .f32) (x5 : Vec F S256x4096 .f32) (x6 : Vec F S1x4096 .f32) (x7 : Vec F S4x8192 .f32) (x8 : Vec F S1x4096 .f32)  :
    row0 (sout_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8) = hF (k2_pay6 x0 (rows3 k2_pay3) x7) x1 x2 x3 x6 (row0 k2_pay2) := by
  frame_out
  simp only [row0_fill, rows3_fill]
  refine Eq.trans (row0_canon _ _) ?_
  rfl

/-- The tail rows the point leaves. -/
theorem sout_A1_rows (c : Dev nD) (i : grid2.Coords) (arg2 : Memref sig .tc .vmem S1x256x8192 .bf16) (harg2 : arg2.IsWhole) (arg3 : Memref sig .tc .vmem S1x256x64 .f32) (harg3 : arg3.IsWhole) (arg4 : Memref sig .tc .vmem S32x264x256 .f32) (harg4 : arg4.IsWhole) (arg5 : Memref sig .tc .vmem S32x4096 .f32) (harg5 : arg5.IsWhole) (arg6 : Memref sig .tc .vmem S4096x32 .f32) (harg6 : arg6.IsWhole) (arg7 : Memref sig .tc .vmem S256x4096 .f32) (harg7 : arg7.IsWhole) (arg8 : Memref sig .tc .vmem S1x4096 .f32) (harg8 : arg8.IsWhole) (arg9 : Memref sig .tc .vmem S4x8192 .f32) (harg9 : arg9.IsWhole) (arg10 : Memref sig .tc .vmem S1x4096 .f32) (harg10 : arg10.IsWhole) (arg11 : Memref sig .tc .vmem S1x256x4096 .bf16) (harg11 : arg11.IsWhole) (arg12 : Memref sig .tc .vmem S8x4096 .f32) (harg12 : arg12.IsWhole) (arg13 : Memref sig .tc .vmem S8x8192 .f32) (harg13 : arg13.IsWhole) (hc0 : cond_0 i)
    (x0 : Vec F S1x256x8192 .bf16) (x1 : Vec F S1x256x64 .f32) (x2 : Vec F S32x264x256 .f32) (x3 : Vec F S32x4096 .f32) (x4 : Vec F S4096x32 .f32) (x5 : Vec F S256x4096 .f32) (x6 : Vec F S1x4096 .f32) (x7 : Vec F S4x8192 .f32) (x8 : Vec F S1x4096 .f32)  :
    rows3 (sout_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8) = k2_pay5 x0 := by
  frame_out
  exact rows3_canon _ _

end Cert.KernelIdeal.Scan

end
-- ==== Proof.ScanStepB.lean ====
module

public import proofs.«01_k».proof.Proof.ScanKit
public import Idealize.ShloMosaic.Lib.Pipeline.ValueKit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000

/-- What the point writes out, as a step over its blocks and the carried rows. -/
theorem out_B_eq (c : Dev nD) (i : grid2.Coords) (arg2 : Memref sig .tc .vmem S1x256x8192 .bf16) (harg2 : arg2.IsWhole) (arg3 : Memref sig .tc .vmem S1x256x64 .f32) (harg3 : arg3.IsWhole) (arg4 : Memref sig .tc .vmem S32x264x256 .f32) (harg4 : arg4.IsWhole) (arg5 : Memref sig .tc .vmem S32x4096 .f32) (harg5 : arg5.IsWhole) (arg6 : Memref sig .tc .vmem S4096x32 .f32) (harg6 : arg6.IsWhole) (arg7 : Memref sig .tc .vmem S256x4096 .f32) (harg7 : arg7.IsWhole) (arg8 : Memref sig .tc .vmem S1x4096 .f32) (harg8 : arg8.IsWhole) (arg9 : Memref sig .tc .vmem S4x8192 .f32) (harg9 : arg9.IsWhole) (arg10 : Memref sig .tc .vmem S1x4096 .f32) (harg10 : arg10.IsWhole) (arg11 : Memref sig .tc .vmem S1x256x4096 .bf16) (harg11 : arg11.IsWhole) (arg12 : Memref sig .tc .vmem S8x4096 .f32) (harg12 : arg12.IsWhole) (arg13 : Memref sig .tc .vmem S8x8192 .f32) (harg13 : arg13.IsWhole) (hc0 : ¬cond_0 i)
    (x0 : Vec F S1x256x8192 .bf16) (x1 : Vec F S1x256x64 .f32) (x2 : Vec F S32x264x256 .f32) (x3 : Vec F S32x4096 .f32) (x4 : Vec F S4096x32 .f32) (x5 : Vec F S256x4096 .f32) (x6 : Vec F S1x4096 .f32) (x7 : Vec F S4x8192 .f32) (x8 : Vec F S1x4096 .f32) (xs0 : Vec F S8x4096 .f32) (xs1 : Vec F S8x8192 .f32)  :
    out_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 = oF (k2_pay6 x0 (rows3 xs1) x7) x1 x2 x3 x4 x5 x8 (row0 xs0) := by
  frame_out
  rfl

/-- The state row the point leaves. -/
theorem sout_B0_row (c : Dev nD) (i : grid2.Coords) (arg2 : Memref sig .tc .vmem S1x256x8192 .bf16) (harg2 : arg2.IsWhole) (arg3 : Memref sig .tc .vmem S1x256x64 .f32) (harg3 : arg3.IsWhole) (arg4 : Memref sig .tc .vmem S32x264x256 .f32) (harg4 : arg4.IsWhole) (arg5 : Memref sig .tc .vmem S32x4096 .f32) (harg5 : arg5.IsWhole) (arg6 : Memref sig .tc .vmem S4096x32 .f32) (harg6 : arg6.IsWhole) (arg7 : Memref sig .tc .vmem S256x4096 .f32) (harg7 : arg7.IsWhole) (arg8 : Memref sig .tc .vmem S1x4096 .f32) (harg8 : arg8.IsWhole) (arg9 : Memref sig .tc .vmem S4x8192 .f32) (harg9 : arg9.IsWhole) (arg10 : Memref sig .tc .vmem S1x4096 .f32) (harg10 : arg10.IsWhole) (arg11 : Memref sig .tc .vmem S1x256x4096 .bf16) (harg11 : arg11.IsWhole) (arg12 : Memref sig .tc .vmem S8x4096 .f32) (harg12 : arg12.IsWhole) (arg13 : Memref sig .tc .vmem S8x8192 .f32) (harg13 : arg13.IsWhole) (hc0 : ¬cond_0 i)
    (x0 : Vec F S1x256x8192 .bf16) (x1 : Vec F S1x256x64 .f32) (x2 : Vec F S32x264x256 .f32) (x3 : Vec F S32x4096 .f32) (x4 : Vec F S4096x32 .f32) (x5 : Vec F S256x4096 .f32) (x6 : Vec F S1x4096 .f32) (x7 : Vec F S4x8192 .f32) (x8 : Vec F S1x4096 .f32) (xs0 : Vec F S8x4096 .f32) (xs1 : Vec F S8x8192 .f32)  :
    row0 (sout_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1) = hF (k2_pay6 x0 (rows3 xs1) x7) x1 x2 x3 x6 (row0 xs0) := by
  frame_out
  refine Eq.trans (row0_writes _ _ _ _) ?_
  rfl

/-- The tail rows the point leaves. -/
theorem sout_B1_rows (c : Dev nD) (i : grid2.Coords) (arg2 : Memref sig .tc .vmem S1x256x8192 .bf16) (harg2 : arg2.IsWhole) (arg3 : Memref sig .tc .vmem S1x256x64 .f32) (harg3 : arg3.IsWhole) (arg4 : Memref sig .tc .vmem S32x264x256 .f32) (harg4 : arg4.IsWhole) (arg5 : Memref sig .tc .vmem S32x4096 .f32) (harg5 : arg5.IsWhole) (arg6 : Memref sig .tc .vmem S4096x32 .f32) (harg6 : arg6.IsWhole) (arg7 : Memref sig .tc .vmem S256x4096 .f32) (harg7 : arg7.IsWhole) (arg8 : Memref sig .tc .vmem S1x4096 .f32) (harg8 : arg8.IsWhole) (arg9 : Memref sig .tc .vmem S4x8192 .f32) (harg9 : arg9.IsWhole) (arg10 : Memref sig .tc .vmem S1x4096 .f32) (harg10 : arg10.IsWhole) (arg11 : Memref sig .tc .vmem S1x256x4096 .bf16) (harg11 : arg11.IsWhole) (arg12 : Memref sig .tc .vmem S8x4096 .f32) (harg12 : arg12.IsWhole) (arg13 : Memref sig .tc .vmem S8x8192 .f32) (harg13 : arg13.IsWhole) (hc0 : ¬cond_0 i)
    (x0 : Vec F S1x256x8192 .bf16) (x1 : Vec F S1x256x64 .f32) (x2 : Vec F S32x264x256 .f32) (x3 : Vec F S32x4096 .f32) (x4 : Vec F S4096x32 .f32) (x5 : Vec F S256x4096 .f32) (x6 : Vec F S1x4096 .f32) (x7 : Vec F S4x8192 .f32) (x8 : Vec F S1x4096 .f32) (xs0 : Vec F S8x4096 .f32) (xs1 : Vec F S8x8192 .f32)  :
    rows3 (sout_B_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1) = k2_pay5 x0 := by
  frame_out
  exact rows3_writes _ _ _ _

end Cert.KernelIdeal.Scan

end
-- ==== Proof.ScanPay.lean ====
module

public import proofs.«01_k».proof.Proof.ScanKit
public import Idealize.ShloMosaic.Lib.Pipeline.ValueKit
public import Idealize.ShloMosaic.Lib.Pointwise.Tactic
public import Idealize.ShloMosaic.Lib.MatmulPlain

/-! The scan call's step over the extended reals, element by element. -/

@[expose] public section

set_option maxRecDepth 16384
set_option maxHeartbeats 1000000

noncomputable section

namespace Cert.KernelIdeal.Scan

open Cert.KernelIdeal Cert.KernelIdeal.Gen
open Idealize.ShloMosaic Idealize.ShloMosaic.TcCoe Idealize.ShloMosaic.Tactic
open Idealize.SL Idealize.SL.RA
open Idealize.ShloMosaic.Pipeline (Dat Cfg Window)

/-- A block of rows with the three rows before it put on top, by row number. -/
def ext (x : Vec Ideal S1x256x8192 .bf16) (P : Vec Ideal S3x8192 .f32) (r : ℕ) (d : Fin 8192) : EReal :=
  if h : r < 3 then P (ix2 ⟨r, h⟩ d) else if h' : r - 3 < 256 then x (ix3 0 ⟨r - 3, h'⟩ d) else 0

/-- The causal four-tap sum. -/
def tap (x : Vec Ideal S1x256x8192 .bf16) (P : Vec Ideal S3x8192 .f32) (w : Vec Ideal S4x8192 .f32) (i : Fin 256) (d : Fin 8192) : EReal :=
  w (ix2 0 d) * ext x P i.val d + w (ix2 1 d) * ext x P (1 + i.val) d + w (ix2 2 d) * ext x P (2 + i.val) d + w (ix2 3 d) * ext x P (i.val + 3) d

/-- An entry times its logistic. -/
def silu (v : EReal) : EReal := v * Ideal.logistic v

/-- The block's rows. -/
theorem pay4_apply (x : Vec Ideal S1x256x8192 .bf16) (i : Fin 256) (d : Fin 8192) : k2_pay4 (F := Ideal) x (ix2 i d) = x (ix3 0 i d) := by
  unfold k2_pay4
  pointwise

/-- The last three rows of the block. -/
theorem pay5_apply (x : Vec Ideal S1x256x8192 .bf16) (r : Fin 3) (d : Fin 8192) :
    k2_pay5 (F := Ideal) x (ix2 r d) = x (ix3 0 ⟨253 + r.val, by omega⟩ d) := by
  unfold k2_pay5 k2_pay4
  pointwise

/-- A row of the extended block, without the outer bound. -/
theorem ext_lt (x : Vec Ideal S1x256x8192 .bf16) (P : Vec Ideal S3x8192 .f32) (r : ℕ) (d : Fin 8192) (hr : r < 259) :
    ext x P r d = if h : r < 3 then P (ix2 ⟨r, h⟩ d) else x (ix3 0 ⟨r - 3, by omega⟩ d) := by
  unfold ext
  by_cases h : r < 3
  · rw [dif_pos h, dif_pos h]
  · rw [dif_neg h, dif_neg h, dif_pos (by omega)]

/-- Past the first three rows, the extended block is the block. -/
theorem ext_add (x : Vec Ideal S1x256x8192 .bf16) (P : Vec Ideal S3x8192 .f32) (i : Fin 256) (d : Fin 8192) :
    ext x P (i.val + 3) d = x (ix3 0 i d) := by
  rw [ext_lt x P _ d (by omega), dif_neg (by omega)]
  rfl

/-- The block's activations. -/
theorem pay6_apply (x : Vec Ideal S1x256x8192 .bf16) (P : Vec Ideal S3x8192 .f32) (w : Vec Ideal S4x8192 .f32) (i : Fin 256) (d : Fin 8192) :
    k2_pay6 (F := Ideal) x P w (ix2 i d) = silu (tap x P w i d) := by
  unfold k2_pay6 silu tap
  rw [ext_add, ext_lt x P i.val d (by omega), ext_lt x P (1 + i.val) d (by omega), ext_lt x P (2 + i.val) d (by omega)]
  pointwise
  simp only [pay4_apply]

/-- The scan's input, at an entry. -/
theorem uF_apply (xs : FVec Ideal S256x8192 .f32) (x1 : Vec Ideal S1x256x64 .f32) (x3 : Vec Ideal S32x4096 .f32) (i : Fin 256) (d : Fin 4096) :
    uF xs x1 x3 (ix2 i d) = (∑ n : Fin 32, x1 (ix3 0 i ⟨n.val, by omega⟩) * x3 (ix2 n d)) * xs (ix2 i ⟨d.val, by omega⟩) := by
  unfold uF k2_pay11 k2_pay8 k2_pay9 k2_pay7
  pointwise

/-- The read-out coefficient, spread over a head's columns. -/
theorem cexp_apply (x1 : Vec Ideal S1x256x64 .f32) (x3 : Vec Ideal S32x4096 .f32) (i : Fin 256) (d : Fin 4096) :
    k2_pay10 (F := Ideal) (k2_pay7 x1) (k2_pay8 x3) (ix2 i d) = ∑ n : Fin 32, x1 (ix3 0 i ⟨32 + n.val, by omega⟩) * x3 (ix2 n d) := by
  unfold k2_pay10 k2_pay8 k2_pay7
  pointwise

/-- A head's operator product, at an entry. -/
theorem dotG_apply (u : FVec Ideal S256x4096 .f32) (t : Vec Ideal S32x264x256 .f32) (g : Fin 32) (i : Fin 264) (d : Fin 128) :
    dotG u t g (ix2 i d) = ∑ j : Fin 256, t (ix3 g i j) * u (ix2 j ⟨128 * g.val + d.val, by omega⟩) := by
  unfold dotG blkT
  pointwise

/-- A head's mean square, at an entry. -/
theorem msF_apply (y : FVec Ideal S256x4096 .f32) (x4 : Vec Ideal S4096x32 .f32) (i : Fin 256) (n : Fin 32) :
    msF y x4 (ix2 i n) = ∑ d : Fin 4096, y (ix2 i d) * y (ix2 i d) * x4 (ix2 d n) := by
  unfold msF
  pointwise

/-- The normalised and gated output, at an entry. -/
theorem pay1_apply (xs : FVec Ideal S256x8192 .f32) (x3 : Vec Ideal S32x4096 .f32) (y : FVec Ideal S256x4096 .f32) (ms : FVec Ideal S256x32 .f32) (e : EReal)
    (x8 : Vec Ideal S1x4096 .f32) (i : Fin 256) (d : Fin 4096) :
    k2_pay1 (F := Ideal) xs (k2_pay8 x3) y ms e x8 (ix3 0 i d)
      = y (ix2 i d) * (∑ n : Fin 32, Ideal.rsqrt (ms (ix2 i n) + e) * x3 (ix2 n d)) * x8 (ix2 0 d) * xs (ix2 i ⟨4096 + d.val, by omega⟩) := by
  unfold k2_pay1 k2_pay8
  pointwise

/-- The heads' outputs side by side, at an entry. -/
theorem yCat_apply (u : FVec Ideal S256x4096 .f32) (t : Vec Ideal S32x264x256 .f32) (i : Fin 256) (g : Fin 32) (d : Fin 128) :
    yCat u t (ix2 i ⟨128 * g.val + d.val, by omega⟩) = ∑ j : Fin 256, t (ix3 g ⟨i.val, by omega⟩ j) * u (ix2 j ⟨128 * g.val + d.val, by omega⟩) := by
  have e0 : yCat u t (ix2 i ⟨128 * g.val + d.val, by omega⟩) = yG u t g (ix2 i d) :=
    concatenate_ofFn_apply (t := S256x4096) (s₁ := S256x128) 1 (fun g => yG u t g) _ rfl 128 rfl
      (ix2 i ⟨128 * g.val + d.val, by omega⟩) g
    (by show (128 * g.val + d.val) / 128 = g.val; omega) (ix2 i d)
    (by show d.val = (128 * g.val + d.val) % 128; omega)
    (fun b hb => by fin_cases b; · rfl
                    · exact absurd rfl hb)
  have e1 : yG u t g (ix2 i d) = dotG u t g (ix2 ⟨i.val, by omega⟩ d) := by
    unfold yG
    pointwise
  rw [e0, e1, dotG_apply]

/-- The heads' state rows side by side, at an entry. -/
theorem rCat_apply (u : FVec Ideal S256x4096 .f32) (t : Vec Ideal S32x264x256 .f32) (g : Fin 32) (d : Fin 128) :
    rCat u t (ix2 0 ⟨128 * g.val + d.val, by omega⟩) = ∑ j : Fin 256, t (ix3 g 256 j) * u (ix2 j ⟨128 * g.val + d.val, by omega⟩) := by
  have e0 : rCat u t (ix2 0 ⟨128 * g.val + d.val, by omega⟩) = rG u t g (ix2 0 d) :=
    concatenate_ofFn_apply (t := S1x4096) (s₁ := S1x128) 1 (fun g => rG u t g) _ rfl 128 rfl
      (ix2 0 ⟨128 * g.val + d.val, by omega⟩) g
    (by show (128 * g.val + d.val) / 128 = g.val; omega) (ix2 0 d)
    (by show d.val = (128 * g.val + d.val) % 128; omega)
    (fun b hb => by fin_cases b; · rfl
                    · exact absurd rfl hb)
  have e1 : rG u t g (ix2 0 d) = dotG u t g (ix2 256 d) := by
    unfold rG
    pointwise
  rw [e0, e1, dotG_apply]

/-- The output before normalisation, at an entry. -/
theorem yF_apply (xs : FVec Ideal S256x8192 .f32) (x1 : Vec Ideal S1x256x64 .f32) (x2 : Vec Ideal S32x264x256 .f32) (x3 : Vec Ideal S32x4096 .f32)
    (x5 : Vec Ideal S256x4096 .f32) (h : Vec Ideal S1x4096 .f32) (i : Fin 256) (g : Fin 32) (d : Fin 128) :
    yF xs x1 x2 x3 x5 h (ix2 i ⟨128 * g.val + d.val, by omega⟩)
      = (∑ n : Fin 32, x1 (ix3 0 i ⟨32 + n.val, by omega⟩) * x3 (ix2 n ⟨128 * g.val + d.val, by omega⟩))
        * ((∑ j : Fin 256, x2 (ix3 g ⟨i.val, by omega⟩ j) * uF xs x1 x3 (ix2 j ⟨128 * g.val + d.val, by omega⟩))
          + x5 (ix2 i ⟨128 * g.val + d.val, by omega⟩) * h (ix2 0 ⟨128 * g.val + d.val, by omega⟩)) := by
  unfold yF
  rw [mulf_apply, addf_apply, cexp_apply, yCat_apply]
  pointwise

/-- The state left, at an entry. -/
theorem hF_apply (xs : FVec Ideal S256x8192 .f32) (x1 : Vec Ideal S1x256x64 .f32) (x2 : Vec Ideal S32x264x256 .f32) (x3 : Vec Ideal S32x4096 .f32)
    (x6 : Vec Ideal S1x4096 .f32) (h : Vec Ideal S1x4096 .f32) (g : Fin 32) (d : Fin 128) :
    hF xs x1 x2 x3 x6 h (ix2 0 ⟨128 * g.val + d.val, by omega⟩)
      = x6 (ix2 0 ⟨128 * g.val + d.val, by omega⟩) * h (ix2 0 ⟨128 * g.val + d.val, by omega⟩)
        + ∑ j : Fin 256, x2 (ix3 g 256 j) * uF xs x1 x3 (ix2 j ⟨128 * g.val + d.val, by omega⟩) := by
  unfold hF
  rw [shapeCast_self, addf_apply, rCat_apply]
  pointwise

/-- The block written out, at an element. -/
theorem oF_apply (xs : FVec Ideal S256x8192 .f32) (x1 : Vec Ideal S1x256x64 .f32) (x2 : Vec Ideal S32x264x256 .f32) (x3 : Vec Ideal S32x4096 .f32)
    (x4 : Vec Ideal S4096x32 .f32) (x5 : Vec Ideal S256x4096 .f32) (x8 : Vec Ideal S1x4096 .f32) (h : Vec Ideal S1x4096 .f32) (i : Fin 256) (d : Fin 4096) :
    oF xs x1 x2 x3 x4 x5 x8 h (ix3 0 i d)
      = yF xs x1 x2 x3 x5 h (ix2 i d)
        * (∑ n : Fin 32, Ideal.rsqrt ((∑ e : Fin 4096, yF xs x1 x2 x3 x5 h (ix2 i e) * yF xs x1 x2 x3 x5 h (ix2 i e) * x4 (ix2 e n))
            + Scalar.ofBits (F := Ideal) .f32 0x358637BD#32) * x3 (ix2 n d))
        * x8 (ix2 0 d) * xs (ix2 i ⟨4096 + d.val, by omega⟩) := by
  unfold oF
  rw [pay1_apply]
  simp only [msF_apply]

end Cert.KernelIdeal.Scan

end
-- ==== Proof.StepSpec.lean ====
module

public import proofs.«01_k».proof.Proof.ScanPay
public import proofs.«01_k».proof.Proof.Maths

/-! One step of the scan call, given blocks that hold what the layer says, leaves what the layer says. -/

@[expose] public section

set_option maxRecDepth 16384
set_option maxHeartbeats 1000000

noncomputable section

namespace Cert.KernelIdeal.Scan

open Cert.KernelIdeal Cert.KernelIdeal.Gen
open Idealize.ShloMosaic Idealize.ShloMosaic.TcCoe Idealize.ShloMosaic.Tactic
open Idealize.SL Idealize.SL.RA
open Cert.Spec (Args dot lag conv act inp st ms fin hd lo hi col pw dt ld eps sum_ext)

/-- The step a block's row stands for. -/
def pos (q : Fin 16) (i : Fin 256) : Fin 4096 := ⟨256 * q.val + i.val, by omega⟩

/-- The arrays the step reads whole: decay operators, head selectors, convolution and norm weights. -/
structure Whole (A : Args) (x2 : Vec Ideal S32x264x256 .f32) (x3 : Vec Ideal S32x4096 .f32) (x4 : Vec Ideal S4096x32 .f32)
    (x5 : Vec Ideal S256x4096 .f32) (x6 : Vec Ideal S1x4096 .f32) (x7 : Vec Ideal S4x8192 .f32) (x8 : Vec Ideal S1x4096 .f32) : Prop where
  hT : ∀ (n : Fin 32) (i j : Fin 256), x2 (ix3 n ⟨i.val, by omega⟩ j) = (if j.val ≤ i.val then pw (ld A n) (i.val - j.val) else 0) * dt A n
  hw : ∀ (n : Fin 32) (j : Fin 256), x2 (ix3 n ⟨256, by omega⟩ j) = dt A n * pw (ld A n) (255 - j.val)
  hsg : ∀ (n : Fin 32) (e : Fin 4096), x3 (ix2 n e) = if n = hd e then (1 : EReal) else 0
  hmean : ∀ (n : Fin 32) (e : Fin 4096), x4 (ix2 e n) = Ideal.div (if n = hd e then (1 : EReal) else 0) (Ideal.ofBits .f32 0x43000000#32)
  hape : ∀ (i : Fin 256) (e : Fin 4096), x5 (ix2 i e) = pw (ld A (hd e)) (i.val + 1)
  hdaq : ∀ e : Fin 4096, x6 (ix2 0 e) = pw (ld A (hd e)) 256
  hcw : ∀ (k : Fin 4) (e : Fin 8192), x7 (ix2 k e) = A.cw e k
  hnw : ∀ e : Fin 4096, x8 (ix2 0 e) = A.nw ⟨e.val % 128, by omega⟩

/-- The blocks that move with the step, and what the step before left. -/
structure Moving (A : Args) (b : Fin 2) (q : Fin 16) (x0 : Vec Ideal S1x256x8192 .bf16) (x1 : Vec Ideal S1x256x64 .f32)
    (P : Vec Ideal S3x8192 .f32) (h : Vec Ideal S1x4096 .f32) : Prop where
  hz : ∀ (i : Fin 256) (d : Fin 8192), x0 (ix3 0 i d) = dot A.hid A.wqkv b (pos q i) d
  hB : ∀ (i : Fin 256) (n : Fin 32), x1 (ix3 0 i ⟨n.val, by omega⟩) = dot A.hid A.wb b (pos q i) n
  hC : ∀ (i : Fin 256) (n : Fin 32), x1 (ix3 0 i ⟨32 + n.val, by omega⟩) = dot A.hid A.wa b (pos q i) n
  hP : ∀ (r : Fin 3) (d : Fin 8192), P (ix2 r d) = lag A b (256 * q.val + r.val) d
  hh : ∀ e : Fin 4096, h (ix2 0 e) = st A b e (256 * q.val)

variable {A : Args} {b : Fin 2} {q : Fin 16}
variable {x0 : Vec Ideal S1x256x8192 .bf16} {x1 : Vec Ideal S1x256x64 .f32} {P : Vec Ideal S3x8192 .f32} {h : Vec Ideal S1x4096 .f32}
variable {x2 : Vec Ideal S32x264x256 .f32} {x3 : Vec Ideal S32x4096 .f32} {x4 : Vec Ideal S4096x32 .f32}
  {x5 : Vec Ideal S256x4096 .f32} {x6 : Vec Ideal S1x4096 .f32} {x7 : Vec Ideal S4x8192 .f32} {x8 : Vec Ideal S1x4096 .f32}

/-- The rows before and in a block are the shifted projection. -/
theorem ext_lag (hM : Moving A b q x0 x1 P h) (r : ℕ) (hr : r < 259) (d : Fin 8192) : ext x0 P r d = lag A b (256 * q.val + r) d := by
  rw [ext_lt x0 P r d hr]
  by_cases h3 : r < 3
  · rw [dif_pos h3]
    exact hM.hP ⟨r, h3⟩ d
  · rw [dif_neg h3]
    refine (hM.hz ⟨r - 3, by omega⟩ d).trans ?_
    unfold lag
    rw [dif_pos ⟨by omega, by omega⟩]
    exact congrArg (fun s => dot A.hid A.wqkv b s d) (Fin.ext (by show 256 * q.val + (r - 3) = 256 * q.val + r - 3; omega))

/-- The activations of a block. -/
theorem act_eq (hM : Moving A b q x0 x1 P h) (hW : Whole A x2 x3 x4 x5 x6 x7 x8) (i : Fin 256) (d : Fin 8192) :
    k2_pay6 (F := Ideal) x0 P x7 (ix2 i d) = act A b (pos q i) d := by
  rw [pay6_apply]
  refine congrArg Spec.silu ?_
  unfold tap conv
  rw [ext_lag hM _ (by omega), ext_lag hM _ (by omega), ext_lag hM _ (by omega), ext_lag hM _ (by omega), hW.hcw, hW.hcw, hW.hcw, hW.hcw]
  have e1 : 256 * q.val + (1 + i.val) = 1 + (pos q i).val := by unfold pos; show _ = 1 + (256 * q.val + i.val); omega
  have e2 : 256 * q.val + (2 + i.val) = 2 + (pos q i).val := by unfold pos; show _ = 2 + (256 * q.val + i.val); omega
  have e3 : 256 * q.val + (i.val + 3) = 3 + (pos q i).val := by unfold pos; show _ = 3 + (256 * q.val + i.val); omega
  rw [e1, e2, e3, mul_comm (A.cw d 0), mul_comm (A.cw d 1), mul_comm (A.cw d 2), mul_comm (A.cw d 3)]
  rfl

/-- A head's entry, spread over the head's columns. -/
theorem spread (hW : Whole A x2 x3 x4 x5 x6 x7 x8) (f g : Fin 32 → EReal) (hf : ∀ n, g n = f n) (e : Fin 4096) :
    (∑ n : Fin 32, g n * x3 (ix2 n e) : EReal) = f (hd e) :=
  (sum_ext fun n => congrArg₂ (fun x y : EReal => x * y) (hf n) (hW.hsg n e)).trans (Spec.sum_hot f (hd e))

/-- The scan's inputs in a block. -/
theorem uF_eq (hM : Moving A b q x0 x1 P h) (hW : Whole A x2 x3 x4 x5 x6 x7 x8) (i : Fin 256) (e : Fin 4096) :
    uF (k2_pay6 (F := Ideal) x0 P x7) x1 x3 (ix2 i e) = dot A.hid A.wb b (pos q i) (hd e) * act A b (pos q i) (lo e) := by
  rw [uF_apply]
  exact congrArg₂ (fun x y : EReal => x * y) (spread hW (fun n => dot A.hid A.wb b (pos q i) n) _ (fun n => hM.hB i n) e) (act_eq hM hW i (lo e))

/-- What the state takes in at a row of a block. -/
theorem inp_pos (e : Fin 4096) (j : Fin 256) :
    inp A b e (256 * q.val + j.val) = dt A (hd e) * (dot A.hid A.wb b (pos q j) (hd e) * act A b (pos q j) (lo e)) := by
  unfold inp
  rw [dif_pos (by omega), mul_assoc]
  rfl

/-- A column, by its head and its place in the head. -/
theorem col_split (e : Fin 4096) : e = ⟨128 * (hd e).val + (⟨e.val % 128, by omega⟩ : Fin 128).val, by have := (hd e).isLt; show _ + e.val % 128 < _; omega⟩ :=
  Fin.ext (by show e.val = 128 * (e.val / 128) + e.val % 128; omega)

/-- The step's output before normalisation. -/
theorem yF_eq (hM : Moving A b q x0 x1 P h) (hW : Whole A x2 x3 x4 x5 x6 x7 x8) (i : Fin 256) (e : Fin 4096) :
    yF (k2_pay6 (F := Ideal) x0 P x7) x1 x2 x3 x5 h (ix2 i e) = Spec.y A b (pos q i) e := by
  have h0 := yF_apply (k2_pay6 (F := Ideal) x0 P x7) x1 x2 x3 x5 h i (hd e) ⟨e.val % 128, by omega⟩
  rw [← col_split e] at h0
  refine h0.trans (congrArg₂ (fun x y : EReal => x * y) (spread hW (fun n => dot A.hid A.wa b (pos q i) n) _ (fun n => hM.hC i n) e) ?_)
  refine Eq.trans ?_ (Spec.chunk_row (Spec.ld_nonpos A (hd e)) (inp A b e) (256 * q.val) i)
  refine congrArg₂ (fun x y : EReal => x + y) (sum_ext fun j => ?_) (congrArg₂ (fun x y : EReal => x * y) (hW.hape i e) (hM.hh e))
  refine (congrArg₂ (fun x y : EReal => x * y) (hW.hT (hd e) i j) (uF_eq hM hW j e)).trans ?_
  show _ * _ * _ = _
  rw [inp_pos]
  by_cases hj : j.val ≤ i.val
  · rw [if_pos hj, if_pos hj, mul_assoc]
  · rw [if_neg hj, if_neg hj, zero_mul, zero_mul]

/-- The state the step leaves. -/
theorem hF_eq (hM : Moving A b q x0 x1 P h) (hW : Whole A x2 x3 x4 x5 x6 x7 x8) (e : Fin 4096) :
    hF (k2_pay6 (F := Ideal) x0 P x7) x1 x2 x3 x6 h (ix2 0 e) = st A b e (256 * (q.val + 1)) := by
  have h0 := hF_apply (k2_pay6 (F := Ideal) x0 P x7) x1 x2 x3 x6 h (hd e) ⟨e.val % 128, by omega⟩
  rw [← col_split e] at h0
  refine h0.trans ?_
  refine Eq.trans ?_ (Spec.chunk_end (Spec.ld_nonpos A (hd e)) (inp A b e) (256 * q.val))
  refine congrArg₂ (fun x y : EReal => x + y) (congrArg₂ (fun x y : EReal => x * y) (hW.hdaq e) (hM.hh e)) (sum_ext fun j => ?_)
  refine (congrArg₂ (fun x y : EReal => x * y) (hW.hw (hd e) j) (uF_eq hM hW j e)).trans ?_
  show _ * _ * _ = _
  rw [inp_pos, mul_comm (dt A (hd e)) (pw _ _), mul_assoc]

/-- The step's output block. -/
theorem oF_eq (hM : Moving A b q x0 x1 P h) (hW : Whole A x2 x3 x4 x5 x6 x7 x8) (i : Fin 256) (e : Fin 4096) :
    oF (k2_pay6 (F := Ideal) x0 P x7) x1 x2 x3 x4 x5 x8 h (ix3 0 i e) = fin A b (pos q i) e := by
  rw [oF_apply]
  refine congrArg₂ (fun x y : EReal => x * y) (congrArg₂ (fun x y : EReal => x * y) (congrArg₂ (fun x y : EReal => x * y) (yF_eq hM hW i e) ?_) (hW.hnw e))
    (act_eq hM hW i (hi e))
  refine spread hW (fun n => Ideal.rsqrt (ms A b (pos q i) n + eps)) _ (fun n => ?_) e
  refine congrArg (fun x : EReal => Ideal.rsqrt (x + eps)) ?_
  refine Eq.trans (sum_ext fun e' => ?_) (Spec.mean_head (fun e' => Spec.y A b (pos q i) e' * Spec.y A b (pos q i) e') n)
  exact congrArg₂ (fun x y : EReal => x * y) (congrArg₂ (fun x y : EReal => x * y) (yF_eq hM hW i e') (yF_eq hM hW i e')) (hW.hmean n e')

/-- The rows carried to the next block. -/
theorem tail_eq (hM : Moving A b q x0 x1 P h) (r : Fin 3) (d : Fin 8192) :
    k2_pay5 (F := Ideal) x0 (ix2 r d) = lag A b (256 * (q.val + 1) + r.val) d := by
  rw [pay5_apply]
  refine (hM.hz ⟨253 + r.val, by omega⟩ d).trans ?_
  unfold lag
  rw [dif_pos ⟨by omega, by omega⟩]
  exact congrArg (fun s => dot A.hid A.wqkv b s d) (Fin.ext (by show 256 * q.val + (253 + r.val) = 256 * (q.val + 1) + r.val - 3; omega))

/-- A batch starts from no state and from zero rows. -/
theorem rows_zero (r : Fin 3) (d : Fin 8192) : rows3 (F := Ideal) (k2_pay3 (F := Ideal)) (ix2 r d) = lag A b (256 * 0 + r.val) d := by
  unfold lag
  rw [dif_neg (by omega)]
  unfold k2_pay3
  pointwise

/-- A batch starts from a zero state. -/
theorem row_zero (e : Fin 4096) : row0 (F := Ideal) (k2_pay2 (F := Ideal)) (ix2 0 e) = st A b e (256 * 0) := by
  unfold k2_pay2
  pointwise
  rfl

end Cert.KernelIdeal.Scan

end
-- ==== Proof.ScanVal.lean ====
module

public import proofs.«01_k».proof.Proof.ScanStepA
public import proofs.«01_k».proof.Proof.ScanStepB
public import proofs.«01_k».proof.Proof.StepSpec

/-! What the scan call leaves in its output array. -/

@[expose] public section

set_option maxRecDepth 16384
set_option maxHeartbeats 1000000

noncomputable section

namespace Cert.KernelIdeal.Scan

open Cert.KernelIdeal Cert.KernelIdeal.Gen
open Idealize.ShloMosaic Idealize.ShloMosaic.TcCoe Idealize.ShloMosaic.Tactic
open Idealize.SL Idealize.SL.RA
open Idealize.ShloMosaic.Pipeline (Dat Cfg Window)
open Cert.Spec (Args dot lag conv act inp st ms fin hd lo hi col pw dt ld eps sum_ext)

variable (W : Dev nD → Valuation τ sig (Elt Ideal)) (c : Dev nD)

/-- The batch and the block of rows a point works on. -/
def bOf (t : Fin cfg2.N) : Fin 2 := ⟨t.val / 16, by have : t.val < 32 := t.isLt; omega⟩
def qOf (t : Fin cfg2.N) : Fin 16 := ⟨t.val % 16, by omega⟩

/-- Which block each point takes of the projected rows. -/
theorem j_0 : ∀ t : Fin cfg2.N, win2_0.index t = ![(bOf t).val, (qOf t).val, 0] := by decide +kernel
/-- Which block each point takes of the narrow projections. -/
theorem j_1 : ∀ t : Fin cfg2.N, win2_1.index t = ![(bOf t).val, (qOf t).val, 0] := by decide +kernel
/-- Which block each point takes of the decay operators. -/
theorem j_2 : ∀ t : Fin cfg2.N, win2_2.index t = ![0, 0, 0] := by decide +kernel
/-- Which block each point takes of the head selector. -/
theorem j_3 : ∀ t : Fin cfg2.N, win2_3.index t = ![0, 0] := by decide +kernel
/-- Which block each point takes of the head averaging matrix. -/
theorem j_4 : ∀ t : Fin cfg2.N, win2_4.index t = ![0, 0] := by decide +kernel
/-- Which block each point takes of the decay powers. -/
theorem j_5 : ∀ t : Fin cfg2.N, win2_5.index t = ![0, 0] := by decide +kernel
/-- Which block each point takes of the block's whole decay. -/
theorem j_6 : ∀ t : Fin cfg2.N, win2_6.index t = ![0, 0] := by decide +kernel
/-- Which block each point takes of the convolution weights. -/
theorem j_7 : ∀ t : Fin cfg2.N, win2_7.index t = ![0, 0] := by decide +kernel
/-- Which block each point takes of the norm weights. -/
theorem j_8 : ∀ t : Fin cfg2.N, win2_8.index t = ![0, 0] := by decide +kernel
/-- Which block each point takes of the output. -/
theorem j_9 : ∀ t : Fin cfg2.N, win2_9.index t = ![(bOf t).val, (qOf t).val, 0] := by decide +kernel

/-! The blocks a point reads. -/

/-- The block of the projected rows that a point reads. -/
theorem b_0 (t : Fin cfg2.N) (i : Fin 256) (d : Fin 8192) : iblk W c 0 t (ix3 0 i d) = W c (Proc.devRef .tc main_v76) (ix3 (bOf t) (pos (qOf t) i) d) := by
  blk_simp [iblk]
  refine congrArg _ ?_
  unfold pos
  blk_ext [j_0]
/-- The block of the narrow projections that a point reads. -/
theorem b_1 (t : Fin cfg2.N) (i : Fin 256) (d : Fin 64) : iblk W c 1 t (ix3 0 i d) = W c (Proc.devRef .tc main_v77) (ix3 (bOf t) (pos (qOf t) i) d) := by
  blk_simp [iblk]
  refine congrArg _ ?_
  unfold pos
  blk_ext [j_1]
/-- The block of the decay operators that a point reads. -/
theorem b_2 (t : Fin cfg2.N) (y : S32x264x256.Idx) : iblk W c 2 t y = W c (Proc.devRef .tc main_v39) y := by
  blk_simp [iblk]
  refine congrArg _ ?_
  blk_ext [j_2]
/-- The block of the head selector that a point reads. -/
theorem b_3 (t : Fin cfg2.N) (y : S32x4096.Idx) : iblk W c 3 t y = W c (Proc.devRef .tc main_v62) y := by
  blk_simp [iblk]
  refine congrArg _ ?_
  blk_ext [j_3]
/-- The block of the head averaging matrix that a point reads. -/
theorem b_4 (t : Fin cfg2.N) (y : S4096x32.Idx) : iblk W c 4 t y = W c (Proc.devRef .tc main_v65) y := by
  blk_simp [iblk]
  refine congrArg _ ?_
  blk_ext [j_4]
/-- The block of the decay powers that a point reads. -/
theorem b_5 (t : Fin cfg2.N) (y : S256x4096.Idx) : iblk W c 5 t y = W c (Proc.devRef .tc main_v67) y := by
  blk_simp [iblk]
  refine congrArg _ ?_
  blk_ext [j_5]
/-- The block of the block's whole decay that a point reads. -/
theorem b_6 (t : Fin cfg2.N) (y : S1x4096.Idx) : iblk W c 6 t y = W c (Proc.devRef .tc main_v69) y := by
  blk_simp [iblk]
  refine congrArg _ ?_
  blk_ext [j_6]
/-- The block of the convolution weights that a point reads. -/
theorem b_7 (t : Fin cfg2.N) (y : S4x8192.Idx) : iblk W c 7 t y = W c (Proc.devRef .tc main_v53) y := by
  blk_simp [iblk]
  refine congrArg _ ?_
  blk_ext [j_7]
/-- The block of the norm weights that a point reads. -/
theorem b_8 (t : Fin cfg2.N) (y : S1x4096.Idx) : iblk W c 8 t y = W c (Proc.devRef .tc main_v73) y := by
  blk_simp [iblk]
  refine congrArg _ ?_
  blk_ext [j_8]

/-- The arrays the call is entered with hold what the layer says. -/
structure Entered (A : Args) (V : Valuation τ sig (Elt Ideal)) : Prop where
  hz : ∀ (b : Fin 2) (s : Fin 4096) (d : Fin 8192), V (Proc.devRef .tc main_v76) (ix3 b s d) = dot A.hid A.wqkv b s d
  hB : ∀ (b : Fin 2) (s : Fin 4096) (n : Fin 32), V (Proc.devRef .tc main_v77) (ix3 b s ⟨n.val, by omega⟩) = dot A.hid A.wb b s n
  hC : ∀ (b : Fin 2) (s : Fin 4096) (n : Fin 32), V (Proc.devRef .tc main_v77) (ix3 b s ⟨32 + n.val, by omega⟩) = dot A.hid A.wa b s n
  hW : Whole A (V (Proc.devRef .tc main_v39)) (V (Proc.devRef .tc main_v62)) (V (Proc.devRef .tc main_v65)) (V (Proc.devRef .tc main_v67))
    (V (Proc.devRef .tc main_v69)) (V (Proc.devRef .tc main_v53)) (V (Proc.devRef .tc main_v73))

variable {W c} {A : Args}

/-- The blocks read whole hold what the layer says. -/
theorem whole_of (hE : Entered A (W c)) (t : Fin cfg2.N) :
    Whole A (iblk W c 2 t) (iblk W c 3 t) (iblk W c 4 t) (iblk W c 5 t) (iblk W c 6 t) (iblk W c 7 t) (iblk W c 8 t) where
  hT n i j := (b_2 W c t _).trans (hE.hW.hT n i j)
  hw n j := (b_2 W c t _).trans (hE.hW.hw n j)
  hsg n e := (b_3 W c t _).trans (hE.hW.hsg n e)
  hmean n e := (b_4 W c t _).trans (hE.hW.hmean n e)
  hape i e := (b_5 W c t _).trans (hE.hW.hape i e)
  hdaq e := (b_6 W c t _).trans (hE.hW.hdaq e)
  hcw k e := (b_7 W c t _).trans (hE.hW.hcw k e)
  hnw e := (b_8 W c t _).trans (hE.hW.hnw e)

/-- The blocks that move hold what the layer says. -/
theorem moving_of (hE : Entered A (W c)) (t : Fin cfg2.N) (P : Vec Ideal S3x8192 .f32) (h : Vec Ideal S1x4096 .f32)
    (hP : ∀ (r : Fin 3) (d : Fin 8192), P (ix2 r d) = lag A (bOf t) (256 * (qOf t).val + r.val) d)
    (hh : ∀ e : Fin 4096, h (ix2 0 e) = st A (bOf t) e (256 * (qOf t).val)) :
    Moving A (bOf t) (qOf t) (iblk W c 0 t) (iblk W c 1 t) P h where
  hz i d := (b_0 W c t i d).trans (hE.hz _ _ d)
  hB i n := (b_1 W c t i _).trans (hE.hB _ _ n)
  hC i n := (b_1 W c t i _).trans (hE.hC _ _ n)
  hP := hP
  hh := hh

/-- What a point leaves: its output block, and the state and rows it hands on. -/
structure Left (A : Args) (b : Fin 2) (q : Fin 16) (o : Vec Ideal S1x256x4096 .bf16 × Vec Ideal S8x4096 .f32 × Vec Ideal S8x8192 .f32) : Prop where
  hfin : ∀ (i : Fin 256) (e : Fin 4096), o.1 (ix3 0 i e) = fin A b (pos q i) e
  hst : ∀ e : Fin 4096, row0 o.2.1 (ix2 0 e) = st A b e (256 * (q.val + 1))
  hlag : ∀ (r : Fin 3) (d : Fin 8192), rows3 o.2.2 (ix2 r d) = lag A b (256 * (q.val + 1) + r.val) d

/-- The first point of a batch. -/
theorem left_A (hE : Entered A (W c)) (t : Fin cfg2.N) (h0 : t.val % 16 = 0) : Left A (bOf t) (qOf t) (outsAt W c t.val t.isLt) := by
  have hq : (qOf t).val = 0 := h0
  have hM := moving_of hE t (rows3 (F := Ideal) (k2_pay3 (F := Ideal))) (row0 (F := Ideal) (k2_pay2 (F := Ideal)))
    (fun r d => by rw [hq]; exact rows_zero r d) (fun e => by rw [hq]; exact row_zero e)
  have hW := whole_of hE t
  rw [outsAt_A W c t h0]
  refine ⟨fun i e => ?_, fun e => ?_, fun r d => ?_⟩
  · dsimp only
    rw [out_A_eq]
    exact oF_eq hM hW i e
  · dsimp only
    rw [sout_A0_row]
    exact hF_eq hM hW e
  · dsimp only
    rw [sout_A1_rows]
    exact tail_eq hM r d

/-- Every other point, from what the point before it left. -/
theorem left_B (hE : Entered A (W c)) (t : Fin cfg2.N) (h0 : ¬t.val % 16 = 0) (q' : Fin 16) (hq : (qOf t).val = q'.val + 1)
    (hL : Left A (bOf t) q' (outsAt W c (t.val - 1) (Nat.lt_of_le_of_lt (Nat.sub_le _ _) t.isLt))) :
    Left A (bOf t) (qOf t) (outsAt W c t.val t.isLt) := by
  have hM := moving_of hE t (rows3 (outsAt W c (t.val - 1) (Nat.lt_of_le_of_lt (Nat.sub_le _ _) t.isLt)).2.2)
    (row0 (outsAt W c (t.val - 1) (Nat.lt_of_le_of_lt (Nat.sub_le _ _) t.isLt)).2.1)
    (fun r d => by rw [hq]; exact hL.hlag r d) (fun e => by rw [hq]; exact hL.hst e)
  have hW := whole_of hE t
  rw [outsAt_B W c t h0]
  refine ⟨fun i e => ?_, fun e => ?_, fun r d => ?_⟩
  · dsimp only
    rw [out_B_eq]
    exact oF_eq hM hW i e
  · dsimp only
    rw [sout_B0_row]
    exact hF_eq hM hW e
  · dsimp only
    rw [sout_B1_rows]
    exact tail_eq hM r d

/-- Every point, by going through a batch's points in order. -/
theorem left_all (hE : Entered A (W c)) : ∀ (n : ℕ) (hn : n < cfg2.N), Left A (bOf ⟨n, hn⟩) (qOf ⟨n, hn⟩) (outsAt W c n hn) := by
  intro n
  induction n with
  | zero => intro hn; exact left_A hE ⟨0, hn⟩ rfl
  | succ n ih =>
    intro hn
    by_cases h0 : (n + 1) % 16 = 0
    · exact left_A hE ⟨n + 1, hn⟩ h0
    · have hb : bOf ⟨n, Nat.lt_of_succ_lt hn⟩ = bOf ⟨n + 1, hn⟩ := Fin.ext (by show n / 16 = (n + 1) / 16; omega)
      refine left_B hE ⟨n + 1, hn⟩ h0 (qOf ⟨n, Nat.lt_of_succ_lt hn⟩) (by show (n + 1) % 16 = n % 16 + 1; omega) ?_
      rw [← hb]
      exact ih _

/-- The layer's scan output as an array. -/
def finArr (A : Args) : S2x4096x4096.Idx → EReal := fun y => fin A (y 0) (y 1) (y 2)

/-- After the scan call its output array holds the layer's scan output. -/
theorem scan_val (hE : Entered A (W c)) : (dat W c).arrAt 9 cfg2.N = finArr A := by
  refine (dat W c).arrAt_eq_of_covers 9 _ (by decide +kernel) fun t hf y => ?_
  blk_simp
  rw [after_9]
  idx_vars y
  have hy : y0 = (0 : Fin 1) := Subsingleton.elim _ _
  subst hy
  refine ((left_all hE t.val t.isLt).hfin y1 y2).trans ?_
  have e : ((View.whole main_v78).slice (win2_9.rect t)).emb (ix3 (0 : Fin 1) y1 y2) = (ix3 (bOf t) (pos (qOf t) y1) y2 : S2x4096x4096.Idx) := by
    unfold pos
    blk_ext [j_9]
  rw [e]
  rfl

end Cert.KernelIdeal.Scan

end
-- ==== Proof.Final.lean ====
module

public import proofs.«01_k».proof.Proof.HostPre
public import proofs.«01_k».proof.Proof.Dense
public import proofs.«01_k».proof.Proof.ScanVal

/-! The kernel program's result array is the layer's output: the calls and the reshapes between them, put together. -/

@[expose] public section

set_option maxRecDepth 16384
set_option maxHeartbeats 1000000

noncomputable section

namespace Cert.KernelIdeal.Whole

open Cert.KernelIdeal Cert.KernelIdeal.Gen
open Idealize.ShloMosaic Idealize.ShloMosaic.TcCoe
open Idealize.SL Idealize.SL.Sem
open Cert.Spec (Args dot sum_ext)
open Cert.KernelIdeal.Dense (rows)

variable (m : (ℓ : Loc nD τ sig) → Buf (Elt Ideal) ℓ) (c : Dev nD)

/-- The arguments the program is launched with. -/
abbrev argsK : Args := Pre.argsOf (StableHlo.launchContents m c)

/-- The buffers the first call is entered with are what the host lines leave. -/
theorem x7_eq : X7 m c = Pre.P7 (StableHlo.launchContents m c) := rfl

/-! ## What each item keeps -/

/-- The first call keeps what it does not write. -/
theorem x8_keeps (r : Ref sig .tc) (h : ∀ w, Pipeline.arrRef cfg0.spec w = r → (cfg0.win w).isOut = false) : X8 m c (Proc.devRef .tc r) = X7 m c (Proc.devRef .tc r) :=
  Pipeline.afterRegion_keeps (Bc.dat (X7 m) c) (X7 m c) launch0.win.arr_inj (fun w => rfl) r h
/-- The second call keeps what it does not write. -/
theorem x9_keeps (r : Ref sig .tc) (h : ∀ w, Pipeline.arrRef cfg1.spec w = r → (cfg1.win w).isOut = false) : X9 m c (Proc.devRef .tc r) = X8 m c (Proc.devRef .tc r) :=
  Pipeline.afterRegion_keeps (Proj.dat (X8 m) c) (X8 m c) launch1.win.arr_inj (fun w => rfl) r h
/-- The reshapes before the scan keep the other buffers. -/
theorem x10_keeps (r : Ref sig .tc) (h : r ∉ hostOps2_W) : X10 m c (Proc.devRef .tc r) = X9 m c (Proc.devRef .tc r) :=
  StableHlo.after_of_writes_sub hostOps2 _ hostOps2_writes h
/-- The scan call keeps what it does not write. -/
theorem x11_keeps (r : Ref sig .tc) (h : ∀ w, Pipeline.arrRef cfg2.spec w = r → (cfg2.win w).isOut = false) : X11 m c (Proc.devRef .tc r) = X10 m c (Proc.devRef .tc r) :=
  Pipeline.afterRegion_keeps (Scan.dat (X10 m) c) (X10 m c) launch2.win.arr_inj (fun w => rfl) r h
/-- The reshape after the scan keeps the other buffers. -/
theorem x12_keeps (r : Ref sig .tc) (h : r ∉ hostOps3_W) : X12 m c (Proc.devRef .tc r) = X11 m c (Proc.devRef .tc r) :=
  StableHlo.after_of_writes_sub hostOps3 _ hostOps3_writes h

/-- A buffer none of the first two calls and the reshapes after them writes. -/
theorem x10_x7 (r : Ref sig .tc) (h2 : r ∉ hostOps2_W) (h1 : ∀ w, Pipeline.arrRef cfg1.spec w = r → (cfg1.win w).isOut = false)
    (h0 : ∀ w, Pipeline.arrRef cfg0.spec w = r → (cfg0.win w).isOut = false) : X10 m c (Proc.devRef .tc r) = X7 m c (Proc.devRef .tc r) :=
  (x10_keeps m c r h2).trans ((x9_keeps m c r h1).trans (x8_keeps m c r h0))

/-! ## What the calls leave -/

/-- The narrow projections. -/
theorem x8_bc : X8 m c (Proc.devRef .tc main_v74_0) = rows (X7 m c (Proc.devRef .tc main_v0)) (X7 m c (Proc.devRef .tc main_v2)) :=
  (Pipeline.afterRegion_arr (Bc.dat (X7 m) c) (X7 m c) launch0.win.arr_inj 2).trans (Dense.bc_val (X7 m) c)
/-- The staged hidden states. -/
theorem x8_hs : X8 m c (Proc.devRef .tc main_v74_1) = X7 m c (Proc.devRef .tc main_v0) :=
  (Pipeline.afterRegion_arr (Bc.dat (X7 m) c) (X7 m c) launch0.win.arr_inj 3).trans (Dense.hs_val (X7 m) c)
/-- The wide projection. -/
theorem x9_xz : X9 m c (Proc.devRef .tc main_v75) = rows (X8 m c (Proc.devRef .tc main_v74_1)) (X8 m c (Proc.devRef .tc main_v1)) :=
  (Pipeline.afterRegion_arr (Proj.dat (X8 m) c) (X8 m c) launch1.win.arr_inj 2).trans (Dense.xz_val (X8 m) c)
/-- The output projection. -/
theorem x13_out : X13 m c (Proc.devRef .tc main_v80) = rows (X12 m c (Proc.devRef .tc main_v79)) (X12 m c (Proc.devRef .tc main_v3)) :=
  (Pipeline.afterRegion_arr (Out.dat (X12 m) c) (X12 m c) launch3.win.arr_inj 2).trans (Dense.out_val (X12 m) c)

/-! ## In the layer's terms -/

/-- The batch of a flattened row. -/
theorem row_div (b : Fin 2) (s : Fin 4096) : (⟨(b.val * 4096 + s.val) / 4096, by omega⟩ : Fin 2) = b := Fin.ext (by show (b.val * 4096 + s.val) / 4096 = b.val; omega)
/-- The step of a flattened row. -/
theorem row_mod (b : Fin 2) (s : Fin 4096) : (⟨(b.val * 4096 + s.val) % 4096, by omega⟩ : Fin 4096) = s := Fin.ext (by show (b.val * 4096 + s.val) % 4096 = s.val; omega)

/-- A row of the hidden states, flattened over the batch. -/
theorem hid_row (b : Fin 2) (s : Fin 4096) (k : Fin 2560) : X7 m c (Proc.devRef .tc main_v0) (ix2 ⟨b.val * 4096 + s.val, by omega⟩ k) = (argsK m c).hid b s k := by
  rw [x7_eq]
  refine (Pre.e_arg0 _ _ k).trans ?_
  rw [row_div, row_mod]

/-- The scan reads the layer's wide projection. -/
theorem x10_z (b : Fin 2) (s : Fin 4096) (d : Fin 8192) : X10 m c (Proc.devRef .tc main_v76) (ix3 b s d) = dot (argsK m c).hid (argsK m c).wqkv b s d := by
  refine (Pre.r_v76 (X9 m c) b s d).trans ?_
  rw [x9_xz, x8_hs, x8_keeps m c main_v1 (by decide)]
  exact sum_ext fun k => congrArg₂ (fun x y : EReal => x * y) (hid_row m c b s k) (by rw [x7_eq]; exact Pre.e_wqkv _ d k)

/-- The scan reads the layer's narrow projections. -/
theorem x10_bc (b : Fin 2) (s : Fin 4096) (d : Fin 64) (w : Fin 2560 → EReal) (hw : ∀ k, X7 m c (Proc.devRef .tc main_v2) (ix2 d k) = w k) :
    X10 m c (Proc.devRef .tc main_v77) (ix3 b s d) = (∑ k, (argsK m c).hid b s k * w k : EReal) := by
  refine (Pre.r_v77 (X9 m c) b s d).trans ?_
  rw [x9_keeps m c main_v74_0 (by decide), x8_bc]
  exact sum_ext fun k => congrArg₂ (fun x y : EReal => x * y) (hid_row m c b s k) (hw k)

/-- The scan call is entered with what the layer says. -/
theorem entered : Scan.Entered (argsK m c) (X10 m c) where
  hz := x10_z m c
  hB b s n := x10_bc m c b s _ _ fun k => by rw [x7_eq]; exact Pre.e_wb _ n k
  hC b s n := x10_bc m c b s _ _ fun k => by rw [x7_eq]; exact Pre.e_wa _ n k
  hW := by
    rw [x10_x7 m c main_v39 (by decide) (by decide) (by decide), x10_x7 m c main_v62 (by decide) (by decide) (by decide),
      x10_x7 m c main_v65 (by decide) (by decide) (by decide), x10_x7 m c main_v67 (by decide) (by decide) (by decide),
      x10_x7 m c main_v69 (by decide) (by decide) (by decide), x10_x7 m c main_v53 (by decide) (by decide) (by decide),
      x10_x7 m c main_v73 (by decide) (by decide) (by decide), x7_eq]
    exact ⟨Pre.e_T _, Pre.e_w _, Pre.e_sgt _, Pre.e_sgn _, Pre.e_ape _, Pre.e_daq _, Pre.e_cw _, Pre.e_nw _⟩

/-- The scan leaves the layer's normalised and gated output. -/
theorem x11_fin : X11 m c (Proc.devRef .tc main_v78) = Scan.finArr (argsK m c) :=
  (Pipeline.afterRegion_arr (Scan.dat (X10 m) c) (X10 m c) launch2.win.arr_inj 9).trans (Scan.scan_val (entered m c))

/-- The result array holds the layer's output. -/
theorem x14_val (b : Fin 2) (s : Fin 4096) (o : Fin 2560) : X14 m c (Proc.devRef .tc main_v81) (ix3 b s o) = Spec.out (argsK m c) b s o := by
  refine (Pre.r_v81 (X13 m c) b s o).trans ?_
  rw [x13_out, x12_keeps m c main_v3 (by decide), x11_keeps m c main_v3 (by decide), x10_x7 m c main_v3 (by decide) (by decide) (by decide)]
  refine sum_ext fun e => congrArg₂ (fun x y : EReal => x * y) ?_ (by rw [x7_eq]; exact Pre.e_wo _ o e)
  refine (Pre.r_v79 (X11 m c) _ e).trans ?_
  rw [x11_fin]
  show Spec.fin _ _ _ _ = _
  exact congrArg₂ (fun x y => Spec.fin (argsK m c) x y e) (row_div b s) (row_mod b s)

end Cert.KernelIdeal.Whole

end
-- ==== Proof.RefPre.lean ====
module

public import proofs.«01_k».proof.Proof.RefFrame
public import Idealize.ShloMosaic.Lib.StableHlo.ReadAt
public import Idealize.ShloMosaic.Lib.Pointwise.Tactic
public import Idealize.ShloMosaic.Lib.Pointwise.Contract
public import Idealize.ShloMosaic.Lib.Pointwise.Reduce
public import proofs.«01_k».proof.Proof.Spec

/-! What the reference's lines before its loop compute, entry by entry. -/

@[expose] public section

set_option maxRecDepth 16384
set_option maxHeartbeats 1000000

noncomputable section

namespace Cert.ReferenceIdeal.Ref

open Cert.ReferenceIdeal Cert.ReferenceIdeal.Gen Cert.ReferenceIdeal.Value
open Idealize.ShloMosaic Idealize.ShloMosaic.TcCoe Idealize.ShloMosaic.StableHlo
open Idealize.SL Idealize.SL.Sem

variable (V : Valuation τ sig (Elt Ideal))

def dot3 {n k : ℕ} (x : (⟨3, ![2, 4096, k]⟩ : Shape).Idx → EReal) (w : (⟨2, ![n, k]⟩ : Shape).Idx → EReal) (b : Fin 2) (s : Fin 4096) (e : Fin n) : EReal :=
  ∑ k, x (ix3 b s k) * w (ix2 e k)

/-- What the reference's buffer `main_v1` holds, at an entry. -/
theorem r_v1 (b : Fin 2) (s : Fin 4096) (e : Fin 8192) :
    after hostOps0 V (Proc.devRef .tc main_v1) (ix3 b s e) = dot3 (V (Proc.devRef .tc main_arg0)) (V (Proc.devRef .tc main_arg1)) b s e := by
  after_reads_at
  rfl
/-- What the reference's buffer `main_v3` holds, at an entry. -/
theorem r_v3 (b : Fin 2) (s : Fin 4096) (e : Fin 32) :
    after hostOps0 V (Proc.devRef .tc main_v3) (ix3 b s e) = dot3 (V (Proc.devRef .tc main_arg0)) (V (Proc.devRef .tc main_arg2)) b s e := by
  after_reads_at
  rfl
/-- What the reference's buffer `main_v5` holds, at an entry. -/
theorem r_v5 (b : Fin 2) (s : Fin 4096) (e : Fin 32) :
    after hostOps0 V (Proc.devRef .tc main_v5) (ix3 b s e) = dot3 (V (Proc.devRef .tc main_arg0)) (V (Proc.devRef .tc main_arg3)) b s e := by
  after_reads_at
  rfl
/-- What the reference's buffer `main_c` holds, at an entry. -/
theorem r_c : after hostOps0 V (Proc.devRef .tc main_c) = constantI S_ 32 0#32 := by
  after_reads_simp
def pads (x : S2x4096x8192.Idx → EReal) (b : Fin 2) (s : ℕ) (e : Fin 8192) : EReal :=
  if h : 3 ≤ s ∧ s - 3 < 4096 then x (ix3 b ⟨s - 3, h.2⟩ e) else 0
/-- What the reference's buffer `main_v6` holds, at an entry. -/
theorem r_v6 (hc : V (Proc.devRef .tc main_c) = constantI S_ 32 0#32) (b : Fin 2) (s : Fin 4099) (e : Fin 8192) :
    after hostOps0_1 V (Proc.devRef .tc main_v6) (ix3 b s e) = pads (V (Proc.devRef .tc main_v1)) b s e := by
  after_reads_at
  rw [hc]
  unfold pads
  refine dite_congr rfl (fun _ => rfl) fun _ => ?_
  show (((0#32 : BitVec 32).toInt : ℝ) : EReal) = 0
  simp
def cv (x : S2x4099x8192.Idx → EReal) (w : (⟨3, ![8192, 1, 4]⟩ : Shape).Idx → EReal) (b : Fin 2) (s : Fin 4096) (e : Fin 8192) : EReal :=
  x (ix3 b ⟨s, by omega⟩ e) * w (ix3 e 0 0) + x (ix3 b ⟨1 + s, by omega⟩ e) * w (ix3 e 0 1) + x (ix3 b ⟨2 + s, by omega⟩ e) * w (ix3 e 0 2) + x (ix3 b ⟨3 + s, by omega⟩ e) * w (ix3 e 0 3)
/-- What the reference's buffer `main_v35` holds, at an entry. -/
theorem r_v35 (b : Fin 2) (s : Fin 4096) (e : Fin 4096) :
    after hostOps0_2 V (Proc.devRef .tc main_v35) (ix3 b s e) = cv (V (Proc.devRef .tc main_v6)) (V (Proc.devRef .tc main_arg4)) b s (Spec.lo e) := by
  after_reads_at
  rfl
/-- What the reference's buffer `main_v36` holds, at an entry. -/
theorem r_v36 (b : Fin 2) (s : Fin 4096) (e : Fin 4096) :
    after hostOps0_2 V (Proc.devRef .tc main_v36) (ix3 b s e) = cv (V (Proc.devRef .tc main_v6)) (V (Proc.devRef .tc main_arg4)) b s (Spec.hi e) := by
  after_reads_at
  rfl
/-- What the reference's buffer `main_v37` holds, at an entry. -/
theorem r_v37 (b : Fin 2) (s : Fin 4096) (e : Fin 4096) :
    after hostOps0_3 V (Proc.devRef .tc main_v37) (ix3 b s e) = Spec.silu (V (Proc.devRef .tc main_v35) (ix3 b s e)) := by
  after_reads_at
  rfl
/-- What the reference's buffer `main_v38` holds, at an entry. -/
theorem r_v38 (b : Fin 2) (s : Fin 4096) (n : Fin 32) (d : Fin 128) :
    after hostOps0_4 V (Proc.devRef .tc main_v38) (ix4 b s n d) = V (Proc.devRef .tc main_v37) (ix3 b s (Spec.col n d)) := by
  after_reads_at
  rfl
/-- What the reference's buffer `main_v40` holds, at an entry. -/
theorem r_v40 (n : Fin 32) :
    after hostOps0_4 V (Proc.devRef .tc main_v40) (ix1 n) = (-(Ideal.exp (V (Proc.devRef .tc main_arg7) (ix1 n))) : EReal) := by
  after_reads_at
/-- What the reference's buffer `main_v41` holds, at an entry. -/
theorem r_v41 (n : Fin 32) :
    after hostOps0_5 V (Proc.devRef .tc main_v41) (ix1 n) = Spec.softplus (V (Proc.devRef .tc main_arg8) (ix1 n)) := by
  after_reads_at
  generalize (V (Proc.devRef .tc main_arg8) (ix1 n)) = x
  have h : FloatOps.cmpf CmpFPredicate.une (F := Ideal) (φ := .f32) x x = 0#1 := by
    show Ideal.cmp _ _ _ = _
    simp [Ideal.cmp]
  rw [h]
  rfl
/-- What the reference's buffer `main_v49_0` holds, at an entry. -/
theorem r_v49_0 (b : Fin 2) (s : Fin 4096) (n : Fin 32) (d : Fin 128) :
    after hostOps0_6 V (Proc.devRef .tc main_v49_0) (ix4 s b n d) = V (Proc.devRef .tc main_v38) (ix4 b s n d) := by
  after_reads_at
  simp only [id_eq]
  pointwise
/-- What the reference's buffer `main_v49_1` holds, at an entry. -/
theorem r_v49_1 (b : Fin 2) (s : Fin 4096) (n : Fin 32)  :
    after hostOps0_6 V (Proc.devRef .tc main_v49_1) (ix3 s b n) = V (Proc.devRef .tc main_v3) (ix3 b s n) := by
  after_reads_at
  simp only [id_eq]
  pointwise
/-- What the reference's buffer `main_v49_2` holds, at an entry. -/
theorem r_v49_2 (b : Fin 2) (s : Fin 4096) (n : Fin 32)  :
    after hostOps0_6 V (Proc.devRef .tc main_v49_2) (ix3 s b n) = V (Proc.devRef .tc main_v5) (ix3 b s n) := by
  after_reads_at
  simp only [id_eq]
  pointwise
def decay (x a : EReal) : EReal := Ideal.exp (x * a)
/-- What the reference's buffer `main_v49_3` holds, at an entry. -/
theorem r_v49_3 (n : Fin 32)  :
    after hostOps0_6 V (Proc.devRef .tc main_v49_3) (ix1 n) = decay (V (Proc.devRef .tc main_v41) (ix1 n)) (V (Proc.devRef .tc main_v40) (ix1 n)) := by
  after_reads_at
  simp only [id_eq]
  pointwise
  rfl
/-- What the reference's buffer `main_v49_4` holds, at an entry. -/
theorem r_v49_4 (n : Fin 32)  :
    after hostOps0_6 V (Proc.devRef .tc main_v49_4) (ix1 n) = V (Proc.devRef .tc main_v41) (ix1 n) := by
  after_reads_at
  rfl
/-- What the reference's buffer `main_v49_6` holds, at an entry. -/
theorem r_v49_6 (b : Fin 2) (n : Fin 32) (d : Fin 128) :
    after hostOps0_6 V (Proc.devRef .tc main_v49_6) (ix3 b n d) = (0 : EReal) := by
  after_reads_at
  simp only [id_eq]
  pointwise
/-- The mean square of a head of the scan's result. -/
def msq (y : S4096x2x32x128.Idx → EReal) (b : Fin 2) (s : Fin 4096) (n : Fin 32) : EReal :=
  Ideal.div (∑ d : Fin 128, y (ix4 s b n d) * y (ix4 s b n d)) (Ideal.ofBits .f32 0x43000000#32)
def nrm (y : S4096x2x32x128.Idx → EReal) (w : (⟨1, ![128]⟩ : Shape).Idx → EReal) (b : Fin 2) (s : Fin 4096) (e : Fin 4096) : EReal :=
  y (ix4 s b (Spec.hd e) ⟨e.val % 128, by omega⟩) * Ideal.rsqrt (msq y b s (Spec.hd e) + Spec.eps) * w (ix1 ⟨e.val % 128, by omega⟩)
/-- What the reference's buffer `main_v64` holds, at an entry. -/
theorem r_v64 (b : Fin 2) (s : Fin 4096) (e : Fin 4096) :
    after hostOps0_7 V (Proc.devRef .tc main_v64) (ix3 b s e) = nrm (V (Proc.devRef .tc main_v49_7)) (V (Proc.devRef .tc main_arg6)) b s e := by
  after_reads_at
  rfl
/-- What the reference's buffer `main_v65` holds, at an entry. -/
theorem r_v65 (b : Fin 2) (s : Fin 4096) (e : Fin 4096) :
    after hostOps0_8 V (Proc.devRef .tc main_v65) (ix3 b s e) = Spec.silu (V (Proc.devRef .tc main_v36) (ix3 b s e)) := by
  after_reads_at
  rfl
def gated (p q : S2x4096x4096.Idx → EReal) (w : (⟨2, ![2560, 4096]⟩ : Shape).Idx → EReal) (b : Fin 2) (s : Fin 4096) (e : Fin 2560) : EReal :=
  ∑ k : Fin 4096, (p (ix3 b s k) * q (ix3 b s k)) * w (ix2 e k)
/-- What the reference's buffer `main_v68` holds, at an entry. -/
theorem r_v68 (b : Fin 2) (s : Fin 4096) (e : Fin 2560) :
    after hostOps0_9 V (Proc.devRef .tc main_v68) (ix3 b s e) = gated (V (Proc.devRef .tc main_v64)) (V (Proc.devRef .tc main_v65)) (V (Proc.devRef .tc main_arg5)) b s e := by
  after_reads_at
  rfl

end Cert.ReferenceIdeal.Ref

end
-- ==== Proof.RefVal.lean ====
module

public import proofs.«01_k».proof.Proof.RefPre
public import Idealize.ShloMosaic.Lib.DynamicIndex
public import Idealize.ShloMosaic.Lib.Pipeline.Value

/-! The reference's loop, trip by trip, and its result as the layer's mathematics. -/

@[expose] public section

set_option maxRecDepth 16384
set_option maxHeartbeats 1000000

noncomputable section

namespace Cert.ReferenceIdeal.Ref

open Cert.ReferenceIdeal Cert.ReferenceIdeal.Gen Cert.ReferenceIdeal.Value
open Idealize.ShloMosaic Idealize.ShloMosaic.TcCoe Idealize.ShloMosaic.StableHlo
open Idealize.SL Idealize.SL.Sem

/-- The argument arrays of a valuation, by coordinates. -/
def argsOf (V : Valuation τ sig (Elt Ideal)) : Spec.Args where
  hid b s k := V (Proc.devRef .tc main_arg0) (ix3 b s k)
  wqkv e k := V (Proc.devRef .tc main_arg1) (ix2 e k)
  wb e k := V (Proc.devRef .tc main_arg2) (ix2 e k)
  wa e k := V (Proc.devRef .tc main_arg3) (ix2 e k)
  cw e k := V (Proc.devRef .tc main_arg4) (ix3 e 0 k)
  wo e k := V (Proc.devRef .tc main_arg5) (ix2 e k)
  nw d := V (Proc.devRef .tc main_arg6) (ix1 d)
  al n := V (Proc.devRef .tc main_arg7) (ix1 n)
  db n := V (Proc.devRef .tc main_arg8) (ix1 n)

/-- A step's coefficients lie within their array. -/
theorem slices3 {k : ℕ} (hk : k < 4096) : S4096x2x32.Slices ![k, 0, 0] S1x2x32 :=
  ⟨rfl, fun a => by fin_cases a <;> simp <;> omega⟩
/-- A step's inputs lie within their array. -/
theorem slices4 {k : ℕ} (hk : k < 4096) : S4096x2x32x128.Slices ![k, 0, 0, 0] S1x2x32x128 :=
  ⟨rfl, fun a => by fin_cases a <;> simp <;> omega⟩

section Step
variable (X : Valuation τ sig (Elt Ideal)) (k : ℕ) (hk : k < 4096) (h5 : X (Proc.devRef .tc main_v49_5) = fun _ => BitVec.ofNat 32 k)
include hk h5

/-- A step raises the counter by one. -/
theorem step5 : STEP X (Proc.devRef .tc main_v49_5) = fun _ => BitVec.ofNat 32 (k + 1) := by
  rw [STEP_main_v49_5]; unfold step_main_v49_5
  rw [h5]
  funext i
  show BitVec.ofNat 32 k + 1#32 = _
  rw [BitVec.ofNat_add]

def upd (E h t w x : EReal) : EReal := E * h + t * w * x
def mul2 (p q : EReal) : EReal := p * q

/-- The state a step leaves, at an entry. -/
theorem res_apply (b : Fin 2) (n : Fin 32) (d : Fin 128) : res_main_while0b_v81 X (ix3 b n d) =
    upd (X (Proc.devRef .tc main_v49_3) (ix1 n)) (X (Proc.devRef .tc main_v49_6) (ix3 b n d)) (X (Proc.devRef .tc main_v49_4) (ix1 n))
      (X (Proc.devRef .tc main_v49_1) (ix3 ⟨k, hk⟩ b n)) (X (Proc.devRef .tc main_v49_0) (ix4 ⟨k, hk⟩ b n d)) := by
  unfold res_main_while0b_v81
  rw [h5]
  rw [Host.dynamicSlice_eq_extractStridedSlice S1x2x32 _ _ ![k, 0, 0] _ (slices3 hk) (fun a => by
    fin_cases a
    · exact toInt_ofNat_of_lt (by omega)
    · rfl
    · rfl)]
  rw [Host.dynamicSlice_eq_extractStridedSlice S1x2x32x128 _ _ ![k, 0, 0, 0] _ (slices4 hk) (fun a => by
    fin_cases a
    · exact toInt_ofNat_of_lt (by omega)
    · rfl
    · rfl
    · rfl)]
  pointwise
  rfl

/-- The results after a step: its own row is new, the others stay. -/
theorem step7 (b : Fin 2) (n : Fin 32) (d : Fin 128) (s : Fin 4096) : STEP X (Proc.devRef .tc main_v49_7) (ix4 s b n d) =
    if s.val = k then mul2 (X (Proc.devRef .tc main_v49_2) (ix3 ⟨k, hk⟩ b n)) (res_main_while0b_v81 X (ix3 b n d)) else X (Proc.devRef .tc main_v49_7) (ix4 s b n d) := by
  rw [STEP_main_v49_7]; unfold step_main_v49_7
  rw [h5]
  rw [Host.dynamicSlice_eq_extractStridedSlice S1x2x32 _ _ ![k, 0, 0] _ (slices3 hk) (fun a => by
    fin_cases a
    · exact toInt_ofNat_of_lt (by omega)
    · rfl
    · rfl)]
  rw [Host.dynamicUpdateSlice_eq_updateSlice _ _ _ _ ![k, 0, 0, 0] (fun a => by
    fin_cases a
    · show (min (max ((BitVec.ofNat 32 k).toInt) 0) ((4096 - 1 : ℕ) : ℤ)).toNat = k
      rw [toInt_ofNat_of_lt (by omega)]
      omega
    · rfl
    · rfl
    · rfl) (slices4 hk)]
  simp only [id_eq]
  pointwise
  by_cases hs : s.val = k
  · rw [if_pos hs]
    refine (dif_pos fun a => ?_).trans rfl
    subst hs
    have hb := b.isLt
    have hn := n.isLt
    have hd := d.isLt
    fin_cases a <;> refine ⟨?_, ?_⟩
    · exact le_refl s.val
    · exact Nat.lt_succ_self s.val
    · exact Nat.zero_le _
    · show b.val < 0 + 2; omega
    · exact Nat.zero_le _
    · show n.val < 0 + 32; omega
    · exact Nat.zero_le _
    · show d.val < 0 + 128; omega
  · rw [if_neg hs]
    refine dif_neg fun h => hs ?_
    have h0 : k ≤ s.val ∧ s.val < k + 1 := h 0
    omega
end Step

section Entry
variable (V : Valuation τ sig (Elt Ideal))

def P1 := after hostOps0 V
def P2 := after hostOps0_1 (P1 V)
def P3 := after hostOps0_2 (P2 V)
def P4 := after hostOps0_3 (P3 V)
def P5 := after hostOps0_4 (P4 V)
def P6 := after hostOps0_5 (P5 V)
def P7 := after hostOps0_6 (P6 V)

/-- The loop starts from what the leading lines leave. -/
theorem pre_eq : afterL preI V = P7 V := rfl

/-- A leading stretch keeps what it does not write. -/
theorem k1 (r : Ref sig .tc) (h : r ∉ hostOps0_W) : P1 V (Proc.devRef .tc r) = V (Proc.devRef .tc r) := after_of_writes_sub hostOps0 _ hostOps0_writes h
/-- A leading stretch keeps what it does not write. -/
theorem k2 (r : Ref sig .tc) (h : r ∉ hostOps0_1_W) : P2 V (Proc.devRef .tc r) = P1 V (Proc.devRef .tc r) := after_of_writes_sub hostOps0_1 _ hostOps0_1_writes h
/-- A leading stretch keeps what it does not write. -/
theorem k3 (r : Ref sig .tc) (h : r ∉ hostOps0_2_W) : P3 V (Proc.devRef .tc r) = P2 V (Proc.devRef .tc r) := after_of_writes_sub hostOps0_2 _ hostOps0_2_writes h
/-- A leading stretch keeps what it does not write. -/
theorem k4 (r : Ref sig .tc) (h : r ∉ hostOps0_3_W) : P4 V (Proc.devRef .tc r) = P3 V (Proc.devRef .tc r) := after_of_writes_sub hostOps0_3 _ hostOps0_3_writes h
/-- A leading stretch keeps what it does not write. -/
theorem k5 (r : Ref sig .tc) (h : r ∉ hostOps0_4_W) : P5 V (Proc.devRef .tc r) = P4 V (Proc.devRef .tc r) := after_of_writes_sub hostOps0_4 _ hostOps0_4_writes h
/-- A leading stretch keeps what it does not write. -/
theorem k6 (r : Ref sig .tc) (h : r ∉ hostOps0_5_W) : P6 V (Proc.devRef .tc r) = P5 V (Proc.devRef .tc r) := after_of_writes_sub hostOps0_5 _ hostOps0_5_writes h
/-- A leading stretch keeps what it does not write. -/
theorem k7 (r : Ref sig .tc) (h : r ∉ hostOps0_6_W) : P7 V (Proc.devRef .tc r) = P6 V (Proc.devRef .tc r) := after_of_writes_sub hostOps0_6 _ hostOps0_6_writes h

/-- The padded projection is the shifted one. -/
theorem e_lag (b : Fin 2) (s : Fin 4099) (e : Fin 8192) : P2 V (Proc.devRef .tc main_v6) (ix3 b s e) = Spec.lag (argsOf V) b s e := by
  unfold P2
  rw [r_v6 (P1 V) (r_c V)]
  exact dite_congr rfl (fun h => r_v1 V b _ e) fun _ => rfl

/-- The convolution's lines against the layer's, at any column. -/
theorem e_conv (b : Fin 2) (s : Fin 4096) (e : Fin 8192) :
    cv (P2 V (Proc.devRef .tc main_v6)) (P2 V (Proc.devRef .tc main_arg4)) b s e = Spec.conv (argsOf V) b s e := by
  unfold cv Spec.conv
  rw [k2 V main_arg4 (by decide), k1 V main_arg4 (by decide)]
  refine congrArg₂ _ (congrArg₂ _ (congrArg₂ _ (congrArg₂ _ ?_ rfl) (congrArg₂ _ ?_ rfl)) (congrArg₂ _ ?_ rfl)) (congrArg₂ _ ?_ rfl) <;>
    exact e_lag V b _ e

/-- The convolution's first half. -/
theorem e_v35 (b : Fin 2) (s : Fin 4096) (e : Fin 4096) : P3 V (Proc.devRef .tc main_v35) (ix3 b s e) = Spec.conv (argsOf V) b s (Spec.lo e) :=
  (r_v35 _ b s e).trans (e_conv V b s _)
/-- The convolution's second half. -/
theorem e_v36 (b : Fin 2) (s : Fin 4096) (e : Fin 4096) : P7 V (Proc.devRef .tc main_v36) (ix3 b s e) = Spec.conv (argsOf V) b s (Spec.hi e) := by
  rw [k7 V main_v36 (by decide), k6 V main_v36 (by decide), k5 V main_v36 (by decide), k4 V main_v36 (by decide)]
  exact (r_v36 _ b s e).trans (e_conv V b s _)
/-- The loop's inputs. -/
theorem e_x (b : Fin 2) (s : Fin 4096) (n : Fin 32) (d : Fin 128) :
    P7 V (Proc.devRef .tc main_v49_0) (ix4 s b n d) = Spec.act (argsOf V) b s (Spec.lo (Spec.col n d)) := by
  refine (r_v49_0 _ b s n d).trans ?_
  rw [k6 V main_v38 (by decide)]
  refine (r_v38 _ b s n d).trans ((r_v37 _ b s _).trans ?_)
  rw [e_v35 V b s]
  rfl
/-- The loop's input coefficients. -/
theorem e_B (b : Fin 2) (s : Fin 4096) (n : Fin 32) :
    P7 V (Proc.devRef .tc main_v49_1) (ix3 s b n) = Spec.dot (argsOf V).hid (argsOf V).wb b s n := by
  refine (r_v49_1 _ b s n).trans ?_
  rw [k6 V main_v3 (by decide), k5 V main_v3 (by decide), k4 V main_v3 (by decide), k3 V main_v3 (by decide), k2 V main_v3 (by decide)]
  exact r_v3 V b s n
/-- The loop's read-out coefficients. -/
theorem e_C (b : Fin 2) (s : Fin 4096) (n : Fin 32) :
    P7 V (Proc.devRef .tc main_v49_2) (ix3 s b n) = Spec.dot (argsOf V).hid (argsOf V).wa b s n := by
  refine (r_v49_2 _ b s n).trans ?_
  rw [k6 V main_v5 (by decide), k5 V main_v5 (by decide), k4 V main_v5 (by decide), k3 V main_v5 (by decide), k2 V main_v5 (by decide)]
  exact r_v5 V b s n
/-- The step size. -/
theorem e_dt6 (n : Fin 32) : P6 V (Proc.devRef .tc main_v41) (ix1 n) = Spec.dt (argsOf V) n := by
  refine (r_v41 _ n).trans ?_
  rw [k5 V main_arg8 (by decide), k4 V main_arg8 (by decide), k3 V main_arg8 (by decide), k2 V main_arg8 (by decide), k1 V main_arg8 (by decide)]
  rfl
/-- The step size, in the loop. -/
theorem e_dt (n : Fin 32) : P7 V (Proc.devRef .tc main_v49_4) (ix1 n) = Spec.dt (argsOf V) n :=
  (r_v49_4 _ n).trans (e_dt6 V n)
/-- The decay, in the loop. -/
theorem e_dA (n : Fin 32) : P7 V (Proc.devRef .tc main_v49_3) (ix1 n) = Ideal.exp (Spec.ld (argsOf V) n) := by
  refine (r_v49_3 _ n).trans ?_
  rw [e_dt6 V n, k6 V main_v40 (by decide)]
  have h : P5 V (Proc.devRef .tc main_v40) (ix1 n) = (-(Ideal.exp ((argsOf V).al n)) : EReal) := by
    refine (r_v40 _ n).trans ?_
    rw [k4 V main_arg7 (by decide), k3 V main_arg7 (by decide), k2 V main_arg7 (by decide), k1 V main_arg7 (by decide)]
    rfl
  rw [h]
  rfl
end Entry

/-- What the carried buffers hold before trip `k`. -/
structure Inv (A : Spec.Args) (X : Valuation τ sig (Elt Ideal)) (k : ℕ) : Prop where
  x : ∀ b s n d, X (Proc.devRef .tc main_v49_0) (ix4 s b n d) = Spec.act A b s (Spec.lo (Spec.col n d))
  B : ∀ b s n, X (Proc.devRef .tc main_v49_1) (ix3 s b n) = Spec.dot A.hid A.wb b s n
  C : ∀ b s n, X (Proc.devRef .tc main_v49_2) (ix3 s b n) = Spec.dot A.hid A.wa b s n
  dA : ∀ n, X (Proc.devRef .tc main_v49_3) (ix1 n) = Ideal.exp (Spec.ld A n)
  dt : ∀ n, X (Proc.devRef .tc main_v49_4) (ix1 n) = Spec.dt A n
  i : X (Proc.devRef .tc main_v49_5) = fun _ => BitVec.ofNat 32 k
  h : ∀ b n d, X (Proc.devRef .tc main_v49_6) (ix3 b n d) = Spec.st A b (Spec.col n d) k
  ys : ∀ b s n d, s.val < k → X (Proc.devRef .tc main_v49_7) (ix4 s b n d) = Spec.y A b s (Spec.col n d)

/-- The head of a column given by its head. -/
theorem hd_col (n : Fin 32) (d : Fin 128) : Spec.hd (Spec.col n d) = n := by
  apply Fin.ext; show (n.val * 128 + d.val) / 128 = n.val; omega

/-- The state after one more step is the layer's. -/
theorem inv_res {A : Spec.Args} {X : Valuation τ sig (Elt Ideal)} {k : ℕ} (hk : k < 4096) (H : Inv A X k) (b : Fin 2) (n : Fin 32) (d : Fin 128) :
    res_main_while0b_v81 X (ix3 b n d) = Spec.st A b (Spec.col n d) (k + 1) := by
  rw [res_apply X k hk H.i, H.x, H.B, H.dA, H.dt, H.h]
  unfold upd Spec.st
  rw [Spec.hseq, hd_col]
  refine congrArg _ ?_
  unfold Spec.inp
  rw [dif_pos hk, hd_col]

/-- One step keeps the invariant. -/
theorem inv_step {A : Spec.Args} {X : Valuation τ sig (Elt Ideal)} {k : ℕ} (hk : k < 4096) (H : Inv A X k) : Inv A (STEP X) (k + 1) where
  x b s n d := by rw [STEP_main_v49_0]; exact H.x b s n d
  B b s n := by rw [STEP_main_v49_1]; exact H.B b s n
  C b s n := by rw [STEP_main_v49_2]; exact H.C b s n
  dA n := by rw [STEP_main_v49_3]; exact H.dA n
  dt n := by rw [STEP_main_v49_4]; exact H.dt n
  i := step5 X k hk H.i
  h b n d := by
    rw [STEP_main_v49_6]
    exact inv_res hk H b n d
  ys b s n d hs := by
    rw [step7 X k hk H.i]
    by_cases h : s.val = k
    · rw [if_pos h, H.C, inv_res hk H]
      unfold mul2 Spec.y
      rw [hd_col, h]
      obtain rfl : s = ⟨k, hk⟩ := Fin.ext h
      rfl
    · rw [if_neg h]
      exact H.ys b s n d (by omega)

variable (m : (ℓ : Loc nD τ sig) → Buf (Elt Ideal) ℓ) (c : Dev nD)

/-- The invariant holds at the loop's entry. -/
theorem inv_entry : Inv (argsOf (launchContents m c)) (entryContents preI m c) 0 where
  x b s n d := e_x _ b s n d
  B b s n := e_B _ b s n
  C b s n := e_C _ b s n
  dA n := e_dA _ n
  dt n := e_dt _ n
  i := ctr_entry m c
  h b n d := r_v49_6 _ b n d
  ys b s n d hs := absurd hs (Nat.not_lt_zero _)

/-- The invariant holds before every step. -/
theorem inv_at : ∀ k, k ≤ 4096 → Inv (argsOf (launchContents m c)) (STEP^[k] (entryContents preI m c)) k
  | 0, _ => inv_entry m c
  | k + 1, h => by
    rw [Function.iterate_succ_apply']
    exact inv_step (by omega) (inv_at k (by omega))

/-- The reference's result is the layer's. -/
theorem ref_val (b : Fin 2) (s : Fin 4096) (o : Fin 2560) :
    finalContents condOps preI bodyI postI 4096 m c (Proc.devRef .tc main_v68) (ix3 b s o) = Spec.out (argsOf (launchContents m c)) b s o := by
  let A := argsOf (launchContents m c)
  let X := after condOps (atK m 4096 c)
  have hI := inv_at m c 4096 le_rfl
  have hkeep : ∀ r : Ref sig .tc, r ∉ condOps_W → (∀ W ∈ bodyW, r ∉ W) → X (Proc.devRef .tc r) = P7 (launchContents m c) (Proc.devRef .tc r) := fun r h1 h2 =>
    (after_of_writes_sub condOps _ condOps_writes h1).trans (atK_keep m r h1 h2 c 4096)
  have harg : ∀ r ∈ ([main_arg5, main_arg6] : List (Ref sig .tc)), X (Proc.devRef .tc r) = launchContents m c (Proc.devRef .tc r) := fun r hr => by
    have H : ∀ r ∈ ([main_arg5, main_arg6] : List (Ref sig .tc)), r ∉ condOps_W ∧ (∀ W ∈ bodyW, r ∉ W) ∧ (∀ W ∈ preW, r ∉ W) := by decide +kernel
    obtain ⟨h1, h2, h3⟩ := H r hr
    exact (hkeep r h1 h2).trans (afterL_keep r _ _ pre_writes h3 _)
  have hy : ∀ b s n d, X (Proc.devRef .tc main_v49_7) (ix4 s b n d) = Spec.y A b s (Spec.col n d) := fun b s n d => by
    have h1 : X (Proc.devRef .tc main_v49_7) = STEP^[4096] (entryContents preI m c) (Proc.devRef .tc main_v49_7) :=
      (cond_keeps (atK m 4096 c) main_v49_7 (by decide)).trans (atK_agree m c 4096 main_v49_7 (by decide))
    rw [h1]
    exact hI.ys b s n d s.isLt
  have hz : ∀ b s e, X (Proc.devRef .tc main_v36) (ix3 b s e) = Spec.conv A b s (Spec.hi e) := fun b s e => by
    rw [hkeep main_v36 (by decide) (by decide +kernel)]
    exact e_v36 _ b s e
  show after hostOps0_9 (after hostOps0_8 (after hostOps0_7 X)) (Proc.devRef .tc main_v68) (ix3 b s o) = _
  refine (r_v68 _ b s o).trans ?_
  rw [after_of_writes_sub hostOps0_8 _ hostOps0_8_writes (show main_v64 ∉ hostOps0_8_W by decide),
    after_of_writes_sub hostOps0_8 _ hostOps0_8_writes (show main_arg5 ∉ hostOps0_8_W by decide),
    after_of_writes_sub hostOps0_7 _ hostOps0_7_writes (show main_arg5 ∉ hostOps0_7_W by decide), harg main_arg5 (by decide)]
  unfold gated Spec.out
  refine Spec.sum_ext fun e => ?_
  refine congrArg₂ _ ?_ rfl
  unfold Spec.fin
  refine congrArg₂ _ ?_ ?_
  · refine (r_v64 _ b s e).trans ?_
    unfold nrm msq Spec.ms
    rw [harg main_arg6 (by decide), hy]
    have hc : Spec.col (Spec.hd e) ⟨e.val % 128, by omega⟩ = e := Fin.ext (by show e.val / 128 * 128 + e.val % 128 = e.val; omega)
    rw [hc]
    refine congrArg₂ _ (congrArg _ (congrArg _ (congrArg₂ _ (congrArg₂ _ ?_ rfl) rfl))) rfl
    refine Spec.sum_ext fun d => ?_
    rw [hy]
  · refine (r_v65 _ b s e).trans ?_
    rw [after_of_writes_sub hostOps0_7 _ hostOps0_7_writes (show main_v36 ∉ hostOps0_7_W by decide), hz]
    rfl

end Cert.ReferenceIdeal.Ref

end
-- ==== Proof.Agree.lean ====
module

public import proofs.«01_k».proof.Defs
public import proofs.«01_k».proof.Proof.Final
public import proofs.«01_k».proof.Proof.RefVal

/-! The kernel program and the reference program end with equal results when launched with equal arguments. -/

@[expose] public section

set_option maxRecDepth 16384
set_option maxHeartbeats 1000000

noncomputable section

namespace Cert.Agree

open Idealize.ShloMosaic Idealize.ShloMosaic.TcCoe
open Idealize.SL Idealize.SL.Sem

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)

/-- Equal argument arrays read as equal arguments of the layer. -/
theorem args_eq (c : Dev KernelIdeal.nD)
    (h0 : m' (c.tc.loc ReferenceIdeal.main_arg0) = m (c.tc.loc KernelIdeal.main_arg0))
    (h1 : m' (c.tc.loc ReferenceIdeal.main_arg1) = m (c.tc.loc KernelIdeal.main_arg1))
    (h2 : m' (c.tc.loc ReferenceIdeal.main_arg2) = m (c.tc.loc KernelIdeal.main_arg2))
    (h3 : m' (c.tc.loc ReferenceIdeal.main_arg3) = m (c.tc.loc KernelIdeal.main_arg3))
    (h4 : m' (c.tc.loc ReferenceIdeal.main_arg4) = m (c.tc.loc KernelIdeal.main_arg4))
    (h5 : m' (c.tc.loc ReferenceIdeal.main_arg5) = m (c.tc.loc KernelIdeal.main_arg5))
    (h6 : m' (c.tc.loc ReferenceIdeal.main_arg6) = m (c.tc.loc KernelIdeal.main_arg6))
    (h7 : m' (c.tc.loc ReferenceIdeal.main_arg7) = m (c.tc.loc KernelIdeal.main_arg7))
    (h8 : m' (c.tc.loc ReferenceIdeal.main_arg8) = m (c.tc.loc KernelIdeal.main_arg8)) :
    ReferenceIdeal.Ref.argsOf (StableHlo.launchContents m' c) = KernelIdeal.Whole.argsK m c := by
  show Spec.Args.mk _ _ _ _ _ _ _ _ _ = Spec.Args.mk _ _ _ _ _ _ _ _ _
  congr 1
  · funext b s k; exact congrFun h0 (ix3 b s k)
  · funext e k; exact congrFun h1 (ix2 e k)
  · funext e k; exact congrFun h2 (ix2 e k)
  · funext e k; exact congrFun h3 (ix2 e k)
  · funext e k; exact congrFun h4 (ix3 e 0 k)
  · funext e k; exact congrFun h5 (ix2 e k)
  · funext d; exact congrFun h6 (ix1 d)
  · funext n; exact congrFun h7 (ix1 n)
  · funext n; exact congrFun h8 (ix1 n)

/-- Two arrays of the result's shape are equal when their entries are. -/
theorem ext3 {f g : KernelIdeal.S2x4096x2560.Idx → EReal} (h : ∀ i j k, f (ix3 i j k) = g (ix3 i j k)) : f = g := by
  funext y
  idx_vars y
  exact h _ _ _

/-- The two programs' values of the result array. -/
theorem result_eq (c : Dev KernelIdeal.nD) (hA : ReferenceIdeal.Ref.argsOf (StableHlo.launchContents m' c) = KernelIdeal.Whole.argsK m c) :
    (StableHlo.finalContents ReferenceIdeal.Value.condOps ReferenceIdeal.Value.preI ReferenceIdeal.Value.bodyI ReferenceIdeal.Value.postI 4096 m' c (Proc.devRef .tc ReferenceIdeal.main_v68)
      : KernelIdeal.S2x4096x2560.Idx → EReal)
      = KernelIdeal.Whole.X14 m c (Proc.devRef .tc KernelIdeal.main_v81) :=
  ext3 fun b s o => (ReferenceIdeal.Ref.ref_val m' c b s o).trans ((congrArg (fun A => Spec.out A b s o) hA).trans (KernelIdeal.Whole.x14_val m c b s o).symm)

/-- The programs' results are equal, and both keep their arguments. -/
theorem algebraic : @algebraic_KernelIdeal_ReferenceIdeal KernelIdeal.Gen.facts ReferenceIdeal.Gen.facts := by
  intro m g m' g' _ h
  refine ⟨fun c => KernelIdeal.Whole.X14 m c (Proc.devRef .tc KernelIdeal.main_v81), ?_, ?_⟩
  · exact (θ_run _ _ _).mono (fun _ hr c => ⟨hr.1 c KernelIdeal.main_v81 rfl, KernelIdeal.Whole.args_of m hr.1 c⟩) (KernelIdeal.Whole.run_main m g)
  · refine (θ_run _ _ _).mono (fun _ hr c => ⟨(hr.1 c).1.trans ?_, (hr.1 c).2⟩) (ReferenceIdeal.Ref.run_ref m' g')
    obtain ⟨h0, h1, h2, h3, h4, h5, h6, h7, h8⟩ := h c
    exact result_eq m m' c (args_eq m m' c h0 h1 h2 h3 h4 h5 h6 h7 h8)

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Same
public import proofs.«01_k».proof.Proof.RefFrame
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := by
  refine ⟨Cert.Kernel.Gen.facts, Cert.KernelIdeal.Gen.facts, Cert.ReferenceIdeal.Gen.facts, ?_, ?_, ?_, trivial, ?_⟩
  · intro m g _
    have h := Cert.KernelIdeal.Whole.quiescent (F := Bits) m g
    rw [Cert.Same.defs_eq, Cert.Same.main_eq]
    exact h
  · intro m g _
    exact Cert.KernelIdeal.Whole.quiescent m g
  · intro m g _
    exact (θ_run _ _ _).mono (fun _ h => ⟨fun c => (h.1 c).2, h.2⟩) (Cert.ReferenceIdeal.Ref.run_ref m g)
  · exact Cert.Agree.algebraic

end Cert.Proof

end
